-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x11008 : Shape := ⟨3, ![2, 1024, 11008]⟩
abbrev S5504x4096 : Shape := ⟨2, ![5504, 4096]⟩
abbrev S11008x64 : Shape := ⟨2, ![11008, 64]⟩
abbrev S2752 : Shape := ⟨1, ![2752]⟩
abbrev S1 : Shape := ⟨1, ![1]⟩
abbrev S2048x11008 : Shape := ⟨2, ![2048, 11008]⟩
abbrev S43x1x64 : Shape := ⟨3, ![43, 1, 64]⟩
abbrev S2048x4096 : Shape := ⟨2, ![2048, 4096]⟩
abbrev S2048x256 : Shape := ⟨2, ![2048, 256]⟩
abbrev S128x512 : Shape := ⟨2, ![128, 512]⟩
abbrev S256x64 : Shape := ⟨2, ![256, 64]⟩
abbrev S1x1x64 : Shape := ⟨3, ![1, 1, 64]⟩
abbrev S2048x512 : Shape := ⟨2, ![2048, 512]⟩
abbrev S256x128 : Shape := ⟨2, ![256, 128]⟩
abbrev S1x64 : Shape := ⟨2, ![1, 64]⟩
abbrev S8x64 : Shape := ⟨2, ![8, 64]⟩
abbrev S8x128 : Shape := ⟨2, ![8, 128]⟩
abbrev S8x128x1 : Shape := ⟨3, ![8, 128, 1]⟩
abbrev S256x512 : Shape := ⟨2, ![256, 512]⟩
abbrev S16x128 : Shape := ⟨2, ![16, 128]⟩
abbrev S16x512 : Shape := ⟨2, ![16, 512]⟩

abbrev nBuf : Space → Nat
  | .hbm => 8
  | .vmem => 12
  | .smem => 1
  | _ => 0

abbrev bufTy : (tb : Table) → Fin (tcTables nBuf tb) → BufTy
  | .hbm, ⟨0, _⟩ => ⟨S2x1024x11008, .bf16⟩
  | .hbm, ⟨1, _⟩ => ⟨S5504x4096, .i8⟩
  | .hbm, ⟨2, _⟩ => ⟨S11008x64, .i8⟩
  | .hbm, ⟨3, _⟩ => ⟨S2752, .f32⟩
  | .hbm, ⟨4, _⟩ => ⟨S1, .f32⟩
  | .hbm, ⟨5, _⟩ => ⟨S2048x11008, .bf16⟩
  | .hbm, ⟨6, _⟩ => ⟨S43x1x64, .f32⟩
  | .hbm, ⟨7, _⟩ => ⟨S2048x4096, .bf16⟩
  | .local _ .vmem, ⟨0, _⟩ => ⟨S2048x256, .bf16⟩
  | .local _ .vmem, ⟨1, _⟩ => ⟨S2048x256, .bf16⟩
  | .local _ .vmem, ⟨2, _⟩ => ⟨S128x512, .i8⟩
  | .local _ .vmem, ⟨3, _⟩ => ⟨S128x512, .i8⟩
  | .local _ .vmem, ⟨4, _⟩ => ⟨S256x64, .i8⟩
  | .local _ .vmem, ⟨5, _⟩ => ⟨S256x64, .i8⟩
  | .local _ .vmem, ⟨6, _⟩ => ⟨S1x1x64, .f32⟩
  | .local _ .vmem, ⟨7, _⟩ => ⟨S1x1x64, .f32⟩
  | .local _ .vmem, ⟨8, _⟩ => ⟨S2048x512, .bf16⟩
  | .local _ .vmem, ⟨9, _⟩ => ⟨S2048x512, .bf16⟩
  | .local _ .vmem, ⟨10, _⟩ => ⟨S2048x512, .f32⟩
  | .local _ .vmem, ⟨11, _⟩ => ⟨S256x128, .bf16⟩
  | .local _ .smem, ⟨0, _⟩ => ⟨S1, .f32⟩
  | _, _ => ⟨S2x1024x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 43], ![false, false]⟩

def k0_cond2 (i : grid0.Coords) : BitVec 1 :=
  let arg1 : BitVec 32 := BitVec.ofNat 32 (i 1).val
  let c42_i32_597 : BitVec 32 := 42#32
  let v2262 : BitVec 1 := Scalar.cmpi .eq arg1 c42_i32_597
  let v2263 : BitVec 32 := Scalar.extui v2262
  let c0_i32_598 : BitVec 32 := 0#32
  let v2264 : BitVec 1 := Scalar.cmpi .ne v2263 c0_i32_598
  v2264

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x64 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S2x1024x11008 : Shape := ⟨3, ![2, 1024, 11008]⟩
abbrev S5504x4096 : Shape := ⟨2, ![5504, 4096]⟩
abbrev S11008x64 : Shape := ⟨2, ![11008, 64]⟩
abbrev S2752 : Shape := ⟨1, ![2752]⟩
abbrev S1 : Shape := ⟨1, ![1]⟩
abbrev S16 : Shape := ⟨1, ![16]⟩
abbrev S2752x256 : Shape := ⟨2, ![2752, 256]⟩
abbrev S2752x1 : Shape := ⟨2, ![2752, 1]⟩
abbrev S_ : Shape := ⟨0, ![]⟩
abbrev S5504x2x64 : Shape := ⟨3, ![5504, 2, 64]⟩
abbrev S5504x1x64 : Shape := ⟨3, ![5504, 1, 64]⟩
abbrev S5504x64 : Shape := ⟨2, ![5504, 64]⟩
abbrev S5504x64x64 : Shape := ⟨3, ![5504, 64, 64]⟩
abbrev S5504x64x1 : Shape := ⟨3, ![5504, 64, 1]⟩
abbrev S5504x1x4096 : Shape := ⟨3, ![5504, 1, 4096]⟩
abbrev S5504x2x4096 : Shape := ⟨3, ![5504, 2, 4096]⟩
abbrev S2x1024x5504x2 : Shape := ⟨4, ![2, 1024, 5504, 2]⟩
abbrev S2x1024x4096 : Shape := ⟨3, ![2, 1024, 4096]⟩
abbrev S2048x4096 : Shape := ⟨2, ![2048, 4096]⟩

abbrev nBuf : Space → Nat
  | .hbm => 247
  | .vmem => 0
  | .smem => 0
  | _ => 0

abbrev hbmTy0_0 (i : Nat) : BufTy := match i % 128 with
  | 0 => ⟨S2x1024x11008, .bf16⟩
  | 1 => ⟨S5504x4096, .i8⟩
  | 2 => ⟨S11008x64, .i8⟩
  | 3 => ⟨S2752, .f32⟩
  | 4 => ⟨S1, .f32⟩
  | 5 => ⟨S16, .f32⟩
  | 6 => ⟨S16, .f32⟩
  | 7 => ⟨S11008x64, .i32⟩
  | 8 => ⟨S11008x64, .f32⟩
  | 9 => ⟨S2752x256, .f32⟩
  | 10 => ⟨S2752x1, .f32⟩
  | 11 => ⟨S2752x256, .f32⟩
  | 12 => ⟨S2752x256, .f32⟩
  | 13 => ⟨S_, .f32⟩
  | 14 => ⟨S2752x256, .f32⟩
  | 15 => ⟨S2752x256, .f32⟩
  | 16 => ⟨S11008x64, .f32⟩
  | 17 => ⟨S11008x64, .bf16⟩
  | 18 => ⟨S5504x2x64, .bf16⟩
  | 19 => ⟨S5504x4096, .i32⟩
  | 20 => ⟨S_, .i32⟩
  | 21 => ⟨S5504x4096, .i32⟩
  | 22 => ⟨S5504x4096, .i32⟩
  | 23 => ⟨S5504x1x64, .bf16⟩
  | 24 => ⟨S5504x64, .bf16⟩
  | 25 => ⟨S16, .bf16⟩
  | 26 => ⟨S_, .i32⟩
  | 27 => ⟨S5504x4096, .i32⟩
  | 28 => ⟨S5504x4096, .i32⟩
  | 29 => ⟨S_, .i32⟩
  | 30 => ⟨S5504x4096, .i32⟩
  | 31 => ⟨S5504x4096, .i32⟩
  | 32 => ⟨S_, .i32⟩
  | 33 => ⟨S5504x4096, .i32⟩
  | 34 => ⟨S5504x4096, .i1⟩
  | 35 => ⟨S_, .i32⟩
  | 36 => ⟨S5504x4096, .i32⟩
  | 37 => ⟨S5504x4096, .i32⟩
  | 38 => ⟨S_, .i32⟩
  | 39 => ⟨S5504x4096, .i32⟩
  | 40 => ⟨S5504x4096, .i32⟩
  | 41 => ⟨S_, .i32⟩
  | 42 => ⟨S5504x4096, .i32⟩
  | 43 => ⟨S5504x4096, .i1⟩
  | 44 => ⟨S_, .i32⟩
  | 45 => ⟨S5504x4096, .i32⟩
  | 46 => ⟨S5504x4096, .i32⟩
  | 47 => ⟨S_, .i32⟩
  | 48 => ⟨S5504x4096, .i32⟩
  | 49 => ⟨S5504x4096, .i32⟩
  | 50 => ⟨S_, .i32⟩
  | 51 => ⟨S5504x4096, .i32⟩
  | 52 => ⟨S5504x4096, .i1⟩
  | 53 => ⟨S_, .i32⟩
  | 54 => ⟨S5504x4096, .i32⟩
  | 55 => ⟨S5504x4096, .i32⟩
  | 56 => ⟨S_, .i32⟩
  | 57 => ⟨S5504x4096, .i32⟩
  | 58 => ⟨S5504x4096, .i32⟩
  | 59 => ⟨S_, .i32⟩
  | 60 => ⟨S5504x4096, .i32⟩
  | 61 => ⟨S5504x4096, .i1⟩
  | 62 => ⟨S1, .bf16⟩
  | 63 => ⟨S_, .bf16⟩
  | 64 => ⟨S1, .bf16⟩
  | 65 => ⟨S_, .bf16⟩
  | 66 => ⟨S5504x4096, .bf16⟩
  | 67 => ⟨S5504x4096, .bf16⟩
  | 68 => ⟨S5504x4096, .bf16⟩
  | 69 => ⟨S1, .bf16⟩
  | 70 => ⟨S_, .bf16⟩
  | 71 => ⟨S1, .bf16⟩
  | 72 => ⟨S_, .bf16⟩
  | 73 => ⟨S5504x4096, .bf16⟩
  | 74 => ⟨S5504x4096, .bf16⟩
  | 75 => ⟨S5504x4096, .bf16⟩
  | 76 => ⟨S5504x4096, .bf16⟩
  | 77 => ⟨S1, .bf16⟩
  | 78 => ⟨S_, .bf16⟩
  | 79 => ⟨S1, .bf16⟩
  | 80 => ⟨S_, .bf16⟩
  | 81 => ⟨S5504x4096, .bf16⟩
  | 82 => ⟨S5504x4096, .bf16⟩
  | 83 => ⟨S5504x4096, .bf16⟩
  | 84 => ⟨S1, .bf16⟩
  | 85 => ⟨S_, .bf16⟩
  | 86 => ⟨S1, .bf16⟩
  | 87 => ⟨S_, .bf16⟩
  | 88 => ⟨S5504x4096, .bf16⟩
  | 89 => ⟨S5504x4096, .bf16⟩
  | 90 => ⟨S5504x4096, .bf16⟩
  | 91 => ⟨S5504x4096, .bf16⟩
  | 92 => ⟨S5504x4096, .bf16⟩
  | 93 => ⟨S1, .bf16⟩
  | 94 => ⟨S_, .bf16⟩
  | 95 => ⟨S1, .bf16⟩
  | 96 => ⟨S_, .bf16⟩
  | 97 => ⟨S5504x4096, .bf16⟩
  | 98 => ⟨S5504x4096, .bf16⟩
  | 99 => ⟨S5504x4096, .bf16⟩
  | 100 => ⟨S1, .bf16⟩
  | 101 => ⟨S_, .bf16⟩
  | 102 => ⟨S1, .bf16⟩
  | 103 => ⟨S_, .bf16⟩
  | 104 => ⟨S5504x4096, .bf16⟩
  | 105 => ⟨S5504x4096, .bf16⟩
  | 106 => ⟨S5504x4096, .bf16⟩
  | 107 => ⟨S5504x4096, .bf16⟩
  | 108 => ⟨S1, .bf16⟩
  | 109 => ⟨S_, .bf16⟩
  | 110 => ⟨S1, .bf16⟩
  | 111 => ⟨S_, .bf16⟩
  | 112 => ⟨S5504x4096, .bf16⟩
  | 113 => ⟨S5504x4096, .bf16⟩
  | 114 => ⟨S5504x4096, .bf16⟩
  | 115 => ⟨S1, .bf16⟩
  | 116 => ⟨S_, .bf16⟩
  | 117 => ⟨S1, .bf16⟩
  | 118 => ⟨S_, .bf16⟩
  | 119 => ⟨S5504x4096, .bf16⟩
  | 120 => ⟨S5504x4096, .bf16⟩
  | 121 => ⟨S5504x4096, .bf16⟩
  | 122 => ⟨S5504x4096, .bf16⟩
  | 123 => ⟨S5504x4096, .bf16⟩
  | 124 => ⟨S5504x4096, .bf16⟩
  | 125 => ⟨S5504x64x64, .bf16⟩
  | 126 => ⟨S5504x64x1, .bf16⟩
  | 127 => ⟨S5504x64x64, .bf16⟩
  | _ => ⟨S2x1024x11008, .bf16⟩

abbrev hbmTy0_1 (i : Nat) : BufTy := match i % 128 with
  | 0 => ⟨S5504x64x64, .bf16⟩
  | 1 => ⟨S5504x4096, .bf16⟩
  | 2 => ⟨S_, .i32⟩
  | 3 => ⟨S5504x4096, .i32⟩
  | 4 => ⟨S5504x4096, .i32⟩
  | 5 => ⟨S5504x1x64, .bf16⟩
  | 6 => ⟨S5504x64, .bf16⟩
  | 7 => ⟨S16, .bf16⟩
  | 8 => ⟨S_, .i32⟩
  | 9 => ⟨S5504x4096, .i32⟩
  | 10 => ⟨S5504x4096, .i32⟩
  | 11 => ⟨S_, .i32⟩
  | 12 => ⟨S5504x4096, .i32⟩
  | 13 => ⟨S5504x4096, .i32⟩
  | 14 => ⟨S_, .i32⟩
  | 15 => ⟨S5504x4096, .i32⟩
  | 16 => ⟨S5504x4096, .i1⟩
  | 17 => ⟨S_, .i32⟩
  | 18 => ⟨S5504x4096, .i32⟩
  | 19 => ⟨S5504x4096, .i32⟩
  | 20 => ⟨S_, .i32⟩
  | 21 => ⟨S5504x4096, .i32⟩
  | 22 => ⟨S5504x4096, .i32⟩
  | 23 => ⟨S_, .i32⟩
  | 24 => ⟨S5504x4096, .i32⟩
  | 25 => ⟨S5504x4096, .i1⟩
  | 26 => ⟨S_, .i32⟩
  | 27 => ⟨S5504x4096, .i32⟩
  | 28 => ⟨S5504x4096, .i32⟩
  | 29 => ⟨S_, .i32⟩
  | 30 => ⟨S5504x4096, .i32⟩
  | 31 => ⟨S5504x4096, .i32⟩
  | 32 => ⟨S_, .i32⟩
  | 33 => ⟨S5504x4096, .i32⟩
  | 34 => ⟨S5504x4096, .i1⟩
  | 35 => ⟨S_, .i32⟩
  | 36 => ⟨S5504x4096, .i32⟩
  | 37 => ⟨S5504x4096, .i32⟩
  | 38 => ⟨S_, .i32⟩
  | 39 => ⟨S5504x4096, .i32⟩
  | 40 => ⟨S5504x4096, .i32⟩
  | 41 => ⟨S_, .i32⟩
  | 42 => ⟨S5504x4096, .i32⟩
  | 43 => ⟨S5504x4096, .i1⟩
  | 44 => ⟨S1, .bf16⟩
  | 45 => ⟨S_, .bf16⟩
  | 46 => ⟨S1, .bf16⟩
  | 47 => ⟨S_, .bf16⟩
  | 48 => ⟨S5504x4096, .bf16⟩
  | 49 => ⟨S5504x4096, .bf16⟩
  | 50 => ⟨S5504x4096, .bf16⟩
  | 51 => ⟨S1, .bf16⟩
  | 52 => ⟨S_, .bf16⟩
  | 53 => ⟨S1, .bf16⟩
  | 54 => ⟨S_, .bf16⟩
  | 55 => ⟨S5504x4096, .bf16⟩
  | 56 => ⟨S5504x4096, .bf16⟩
  | 57 => ⟨S5504x4096, .bf16⟩
  | 58 => ⟨S5504x4096, .bf16⟩
  | 59 => ⟨S1, .bf16⟩
  | 60 => ⟨S_, .bf16⟩
  | 61 => ⟨S1, .bf16⟩
  | 62 => ⟨S_, .bf16⟩
  | 63 => ⟨S5504x4096, .bf16⟩
  | 64 => ⟨S5504x4096, .bf16⟩
  | 65 => ⟨S5504x4096, .bf16⟩
  | 66 => ⟨S1, .bf16⟩
  | 67 => ⟨S_, .bf16⟩
  | 68 => ⟨S1, .bf16⟩
  | 69 => ⟨S_, .bf16⟩
  | 70 => ⟨S5504x4096, .bf16⟩
  | 71 => ⟨S5504x4096, .bf16⟩
  | 72 => ⟨S5504x4096, .bf16⟩
  | 73 => ⟨S5504x4096, .bf16⟩
  | 74 => ⟨S5504x4096, .bf16⟩
  | 75 => ⟨S1, .bf16⟩
  | 76 => ⟨S_, .bf16⟩
  | 77 => ⟨S1, .bf16⟩
  | 78 => ⟨S_, .bf16⟩
  | 79 => ⟨S5504x4096, .bf16⟩
  | 80 => ⟨S5504x4096, .bf16⟩
  | 81 => ⟨S5504x4096, .bf16⟩
  | 82 => ⟨S1, .bf16⟩
  | 83 => ⟨S_, .bf16⟩
  | 84 => ⟨S1, .bf16⟩
  | 85 => ⟨S_, .bf16⟩
  | 86 => ⟨S5504x4096, .bf16⟩
  | 87 => ⟨S5504x4096, .bf16⟩
  | 88 => ⟨S5504x4096, .bf16⟩
  | 89 => ⟨S5504x4096, .bf16⟩
  | 90 => ⟨S1, .bf16⟩
  | 91 => ⟨S_, .bf16⟩
  | 92 => ⟨S1, .bf16⟩
  | 93 => ⟨S_, .bf16⟩
  | 94 => ⟨S5504x4096, .bf16⟩
  | 95 => ⟨S5504x4096, .bf16⟩
  | 96 => ⟨S5504x4096, .bf16⟩
  | 97 => ⟨S1, .bf16⟩
  | 98 => ⟨S_, .bf16⟩
  | 99 => ⟨S1, .bf16⟩
  | 100 => ⟨S_, .bf16⟩
  | 101 => ⟨S5504x4096, .bf16⟩
  | 102 => ⟨S5504x4096, .bf16⟩
  | 103 => ⟨S5504x4096, .bf16⟩
  | 104 => ⟨S5504x4096, .bf16⟩
  | 105 => ⟨S5504x4096, .bf16⟩
  | 106 => ⟨S5504x4096, .bf16⟩
  | 107 => ⟨S5504x64x64, .bf16⟩
  | 108 => ⟨S5504x64x1, .bf16⟩
  | 109 => ⟨S5504x64x64, .bf16⟩
  | 110 => ⟨S5504x64x64, .bf16⟩
  | 111 => ⟨S5504x4096, .bf16⟩
  | 112 => ⟨S5504x1x4096, .bf16⟩
  | 113 => ⟨S5504x1x4096, .bf16⟩
  | 114 => ⟨S5504x2x4096, .bf16⟩
  | 115 => ⟨S2x1024x5504x2, .bf16⟩
  | 116 => ⟨S2x1024x4096, .f32⟩
  | 117 => ⟨S2x1024x4096, .bf16⟩
  | 118 => ⟨S2048x4096, .bf16⟩
  | _ => ⟨S2x1024x11008, .bf16⟩

abbrev hbmTy (i : Nat) : BufTy := match i / 128 with
  | 0 => hbmTy0_0 i
  | 1 => hbmTy0_1 i
  | _ => ⟨S2x1024x11008, .bf16⟩

abbrev bufTy : (tb : Table) → Fin (tcTables nBuf tb) → BufTy
  | .hbm, ⟨i, _⟩ => hbmTy i
  | _, _ => ⟨S2x1024x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_c_9 : Ref sig .tc := ⟨.hbm, 50, rfl⟩
abbrev main_v34 : Ref sig .tc := ⟨.hbm, 51, rfl⟩
abbrev main_v35 : Ref sig .tc := ⟨.hbm, 52, rfl⟩
abbrev main_c_10 : Ref sig .tc := ⟨.hbm, 53, rfl⟩
abbrev main_v36 : Ref sig .tc := ⟨.hbm, 54, rfl⟩
abbrev main_v37 : Ref sig .tc := ⟨.hbm, 55, rfl⟩
abbrev main_c_11 : Ref sig .tc := ⟨.hbm, 56, rfl⟩
abbrev main_v38 : Ref sig .tc := ⟨.hbm, 57, rfl⟩
abbrev main_v39 : Ref sig .tc := ⟨.hbm, 58, rfl⟩
abbrev main_c_12 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call0_v0 : Ref sig .tc := ⟨.hbm, 66, rfl⟩
abbrev main_call0_v1 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_v0 : Ref sig .tc := ⟨.hbm, 73, rfl⟩
abbrev main_call1_v1 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call3_v0 : Ref sig .tc := ⟨.hbm, 81, rfl⟩
abbrev main_call3_v1 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call4_v0 : Ref sig .tc := ⟨.hbm, 88, rfl⟩
abbrev main_call4_v1 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call7_v0 : Ref sig .tc := ⟨.hbm, 97, rfl⟩
abbrev main_call7_v1 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_call8_v0 : Ref sig .tc := ⟨.hbm, 104, rfl⟩
abbrev main_call8_v1 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call10_v0 : Ref sig .tc := ⟨.hbm, 112, rfl⟩
abbrev main_call10_v1 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call11_v0 : Ref sig .tc := ⟨.hbm, 119, rfl⟩
abbrev main_call11_v1 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_c_13 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_c_14 : Ref sig .tc := ⟨.hbm, 136, rfl⟩
abbrev main_v99 : Ref sig .tc := ⟨.hbm, 137, rfl⟩
abbrev main_v100 : Ref sig .tc := ⟨.hbm, 138, rfl⟩
abbrev main_c_15 : Ref sig .tc := ⟨.hbm, 139, rfl⟩
abbrev main_v101 : Ref sig .tc := ⟨.hbm, 140, rfl⟩
abbrev main_v102 : Ref sig .tc := ⟨.hbm, 141, rfl⟩
abbrev main_c_16 : Ref sig .tc := ⟨.hbm, 142, rfl⟩
abbrev main_v103 : Ref sig .tc := ⟨.hbm, 143, rfl⟩
abbrev main_v104 : Ref sig .tc := ⟨.hbm, 144, rfl⟩
abbrev main_c_17 : Ref sig .tc := ⟨.hbm, 145, rfl⟩
abbrev main_v105 : Ref sig .tc := ⟨.hbm, 146, rfl⟩
abbrev main_v106 : Ref sig .tc := ⟨.hbm, 147, rfl⟩
abbrev main_c_18 : Ref sig .tc := ⟨.hbm, 148, rfl⟩
abbrev main_v107 : Ref sig .tc := ⟨.hbm, 149, rfl⟩
abbrev main_v108 : Ref sig .tc := ⟨.hbm, 150, rfl⟩
abbrev main_c_19 : Ref sig .tc := ⟨.hbm, 151, rfl⟩
abbrev main_v109 : Ref sig .tc := ⟨.hbm, 152, rfl⟩
abbrev main_v110 : Ref sig .tc := ⟨.hbm, 153, rfl⟩
abbrev main_c_20 : Ref sig .tc := ⟨.hbm, 154, rfl⟩
abbrev main_v111 : Ref sig .tc := ⟨.hbm, 155, rfl⟩
abbrev main_v112 : Ref sig .tc := ⟨.hbm, 156, rfl⟩
abbrev main_c_21 : Ref sig .tc := ⟨.hbm, 157, rfl⟩
abbrev main_v113 : Ref sig .tc := ⟨.hbm, 158, rfl⟩
abbrev main_v114 : Ref sig .tc := ⟨.hbm, 159, rfl⟩
abbrev main_c_22 : Ref sig .tc := ⟨.hbm, 160, rfl⟩
abbrev main_v115 : Ref sig .tc := ⟨.hbm, 161, rfl⟩
abbrev main_v116 : Ref sig .tc := ⟨.hbm, 162, rfl⟩
abbrev main_c_23 : Ref sig .tc := ⟨.hbm, 163, rfl⟩
abbrev main_v117 : Ref sig .tc := ⟨.hbm, 164, rfl⟩
abbrev main_v118 : Ref sig .tc := ⟨.hbm, 165, rfl⟩
abbrev main_c_24 : Ref sig .tc := ⟨.hbm, 166, rfl⟩
abbrev main_v119 : Ref sig .tc := ⟨.hbm, 167, rfl⟩
abbrev main_v120 : Ref sig .tc := ⟨.hbm, 168, rfl⟩
abbrev main_c_25 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_call15_v0 : Ref sig .tc := ⟨.hbm, 176, rfl⟩
abbrev main_call15_v1 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_call16_v0 : Ref sig .tc := ⟨.hbm, 183, rfl⟩
abbrev main_call16_v1 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_call18_v0 : Ref sig .tc := ⟨.hbm, 191, rfl⟩
abbrev main_call18_v1 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_call19_v0 : Ref sig .tc := ⟨.hbm, 198, rfl⟩
abbrev main_call19_v1 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_call22_v0 : Ref sig .tc := ⟨.hbm, 207, rfl⟩
abbrev main_call22_v1 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_call23_v0 : Ref sig .tc := ⟨.hbm, 214, rfl⟩
abbrev main_call23_v1 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_call25_v0 : Ref sig .tc := ⟨.hbm, 222, rfl⟩
abbrev main_call25_v1 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_call26_v0 : Ref sig .tc := ⟨.hbm, 229, rfl⟩
abbrev main_call26_v1 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩

abbrev nD : Nat := 1
abbrev τ : Topo := Topo.v7x

variable {F : FTy → Type} [FloatOps F]
-- ==== Proof.Kernel.Runs.lean ====
/-
  Kernel: what the runs of the body share.

  The conditions of the body's two branches as arithmetic of the grid point, where the output window is idle, and the
  names of the staging buffers and of the two scratch buffers.
-/
module

public import proofs.«01_k».proof.Proof.Gen.Kernel.Frame
public import proofs.«01_k».proof.Proof.Gen.Kernel.Skeleton

public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 43) — by arithmetic of the point. -/
theorem hcond0_0 : ∀ t : Fin cfg0.N, cond0_0 (grid0.coords t) ↔ t.val % 43 = 0 :=
  (fun t => by
    have ht : t.val < 344 := Nat.lt_of_lt_of_eq t.isLt N_0
    have e0 : (grid0.coords t 0).val = t.val / 43 % 8 := Pipeline.Grid.coords_val t 0 (by decide) rfl
    have e1 : (grid0.coords t 1).val = t.val / 1 % 43 := Pipeline.Grid.coords_val t 1 (by decide) rfl
    simp only [cond0_0, e0, e1]
    word_cmp
   : ∀ t : Fin grid0.N, cond0_0 (grid0.coords t) ↔ t.val % 43 = 0)

/-- The condition of the body's `scf.if` 1 (`k0_h2`), from the grid coordinates (the skeleton's scalar
    chain substituted). -/
abbrev cond0_1 (i : grid0.Coords) : Prop := k0_cond2 i = 1#1
/-- It holds at the points ≡ 42 (mod 43) — by arithmetic of the point. -/
theorem hcond0_1 : ∀ t : Fin cfg0.N, cond0_1 (grid0.coords t) ↔ t.val % 43 = 42 :=
  (fun t => by
    have ht : t.val < 344 := Nat.lt_of_lt_of_eq t.isLt N_0
    have e0 : (grid0.coords t 0).val = t.val / 43 % 8 := Pipeline.Grid.coords_val t 0 (by decide) rfl
    have e1 : (grid0.coords t 1).val = t.val / 1 % 43 := Pipeline.Grid.coords_val t 1 (by decide) rfl
    simp only [cond0_1, k0_cond2, e0, e1]
    word_cmp
   : ∀ t : Fin grid0.N, cond0_1 (grid0.coords t) ↔ t.val % 43 = 42)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 5, through which its contents are stated (`View.read_writes_of_cover`: the
    choice does not matter). -/
abbrev VO0_5 : View sig .tc .vmem S2048x512 .bf16 := (Memref.whole cc0_stg5_0 : Memref sig .tc .vmem S2048x512 .bf16).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x64 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x512 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2048x512 .f32 := Memref.whole cc0_scratch0
abbrev scM0_1 : Memref sig .tc .vmem S256x128 .bf16 := Memref.whole cc0_scratch1
/-- The scratch `arg8` the kernel carries between points, as a view: what it holds is stated through it. -/
abbrev VS0_0 : View sig .tc .vmem S2048x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.Kernel.Tile.lean ====
/-
  One grid point of the kernel, as a function of what it reads.

  A run of the body ends with one long composed term: 32 gathers of the scale row, 64 gathers of the block scales, the
  decoding selects, the matrix product. This file names the stages of that term once, with the row group and the column
  group as parameters (`scaleRows`, `absmax`, `decoded`, `spread`, `step`).

  The body keeps the block scales in the first 64 lanes of a scratch of 128 lanes and loads all 128: lanes 64 to 127 hold
  whatever the scratch held. No gather reads them (`step_congr`), so a point leaves the same whatever they hold
  (`step_rows`). The statements hold for any reading of the floats.
-/
module

public import proofs.«01_k».proof.Proof.Kernel.Runs
public import Idealize.ShloMosaic.Lib.Pipeline.ReadBack
public import Idealize.ShloMosaic.Lib.Pipeline.ValueKit

@[expose] public section

set_option maxRecDepth 16384

noncomputable section

namespace Cert.Kernel.Tile

open Cert.Kernel Cert.Kernel.Gen
open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode

variable {F : FTy → Type} [FloatOps F]

/-! ## The stages -/

/-- A column index as a gather takes it: a negative index counts from the end (none is negative here), and the array
    passes through the three-axis shape the gather's lowering gives its indices. -/
def wrapIdx (v : IVec S8x128 32) : IVec S8x128 32 :=
  shapeCast S8x128 (shapeCast S8x128x1 (select (cmpi .slt v (broadcast S8x128 0#32)) (addi v (broadcast S8x128 128#32)) v)
    shapeCasts_S8x128_S8x128x1) shapeCasts_S8x128x1_S8x128

/-- The 64 scales of the point's row block, on eight rows and twice along the lanes. -/
def scaleTile (s : Vec F S1x1x64 .f32) : FVec F S8x128 .f32 :=
  concatenate S8x128 1
    [⟨S8x64, broadcastTo S8x64 (shapeCast S1x64 (shapeCast S1x64 s shapeCasts_S1x1x64_S1x64) shapeCasts_S1x64_S1x64) broadcasts_S1x64_S8x64⟩,
     ⟨S8x64, broadcastTo S8x64 (shapeCast S1x64 (shapeCast S1x64 s shapeCasts_S1x1x64_S1x64) shapeCasts_S1x64_S1x64) broadcasts_S1x64_S8x64⟩]
    concatenates_S8x64_S8x64_S8x128_d1

/-- Which scale each row of an eight-row group reads: `k` for its first four rows and `k + 1` for the others. -/
def scaleIdx (k : BitVec 32) : IVec S8x64 32 :=
  addi (broadcast S8x64 k) (shrsi (iota .tc S8x64 32 [0] iota_S8x64_d0_w32) (broadcast S8x64 2#32))

/-- The index the scale gather takes: that, twice along the lanes. -/
def scaleCol (k : BitVec 32) : IVec S8x128 32 :=
  wrapIdx (concatenate S8x128 1 [⟨S8x64, scaleIdx k⟩, ⟨S8x64, scaleIdx k⟩] concatenates_S8x64_S8x64_S8x128_d1)

/-- The scales of an eight-row group, one per row, on every column. -/
def scaleRows (s : Vec F S1x1x64 .f32) (k : BitVec 32) : FVec F S8x64 .f32 :=
  extractStridedSlice S8x64 ![0, 0]
    (dynamicGather 1 (scaleTile s) (scaleCol k))
    slices_S8x128_o0_0_S8x64

/-- The block scales of the point's 256 rows: the quantised value times its row's scale, plus the offset. -/
def absmax (off : Elt F .f32) (q : Vec F S256x64 .i8) (s : Vec F S1x1x64 .f32) : FVec F S256x64 .bf16 :=
  truncf .bf16
    (addf
      (mulf (sitofp .f32 q)
        (concatenate S256x64 0 (List.ofFn fun g : Fin 32 => ⟨S8x64, scaleRows s (BitVec.ofNat 32 (2 * g.val))⟩)
          concatenates_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S256x64_d0))
      (broadcast S256x64 off)) bitsLt_bf16_f32

/-- The four-bit codes of the point's weight tile, each on a row of its own, as sixteen-bit words. -/
def codes (p : Vec F S128x512 .i8) : IVec S256x512 16 :=
  bitcast S256x512 16
    (andi (ori (extui 32 p natLt_8_32) (shli (extui 32 p natLt_8_32) (broadcast S128x512 12#32))) (broadcast S128x512 983055#32))
    bitcasts_S128x512_w32_S256x512_w16

/-- Whether the codes have the bit of the mask `b` set. -/
def bitSet (p : Vec F S128x512 .i8) (b : BitVec 16) : IVec S256x512 1 :=
  cmpi .ne (andi (codes (F := F) p) (broadcast S256x512 b)) (broadcast S256x512 0#16)

/-- One value of the code book, on the whole tile. -/
def book (w : BitVec 32) : FVec F S256x512 .bf16 :=
  truncf .bf16 (broadcast S256x512 (Scalar.ofBits (F := F) .f32 w)) bitsLt_bf16_f32

/-- The decoded codes: the binary tree of selects over the sixteen values of the code book. -/
def decoded (p : Vec F S128x512 .i8) : FVec F S256x512 .bf16 :=
  select (bitSet (F := F) p 8#16)
    (select (bitSet (F := F) p 4#16)
      (select (bitSet (F := F) p 2#16)
        (select (bitSet (F := F) p 1#16) (book 0x3F800000#32) (book 0x3F3913B3#32))
        (select (bitSet (F := F) p 1#16) (book 0x3F1007AB#32) (book 0x3EE1A4B8#32)))
      (select (bitSet (F := F) p 2#16)
        (select (bitSet (F := F) p 1#16) (book 0x3EAD033A#32) (book 0x3E7C04DD#32))
        (select (bitSet (F := F) p 1#16) (book 0x3E24CAE3#32) (book 0x3DA2FAFF#32))))
    (select (bitSet (F := F) p 4#16)
      (select (bitSet (F := F) p 2#16)
        (select (bitSet (F := F) p 1#16) (book 0x00000000#32) (book 0xBDBA7871#32))
        (select (bitSet (F := F) p 1#16) (book 0xBE3D353F#32) (book 0xBE91A24D#32)))
      (select (bitSet (F := F) p 2#16)
        (select (bitSet (F := F) p 1#16) (book 0xBECA32A0#32) (book 0xBF066B30#32))
        (select (bitSet (F := F) p 1#16) (book 0xBF3239B1#32) (book 0xBF800000#32))))

/-- The block a lane of the column group `h` lies in: `8 n + h` and the next one, 64 lanes each. -/
def colIdx (n h : BitVec 32) : IVec S8x128 32 :=
  wrapIdx (addi (broadcast S8x128 (Scalar.addi (Scalar.muli n 8#32) h)) (shrsi (iota .tc S8x128 32 [1] iota_S8x128_d1_w32) (broadcast S8x128 6#32)))

/-- Sixteen rows of block scales spread over the 128 columns of a column group. -/
def spread (n : BitVec 32) (aw : FVec F S16x128 .f32) (h : BitVec 32) : FVec F S16x128 .bf16 :=
  truncf .bf16
    (concatenate S16x128 0
      [⟨S8x128, dynamicGather 1 (extractStridedSlice S8x128 ![0, 0] aw slices_S16x128_o0_0_S8x128) (colIdx n h)⟩,
       ⟨S8x128, dynamicGather 1 (extractStridedSlice S8x128 ![8, 0] aw slices_S16x128_o8_0_S8x128) (colIdx n h)⟩]
      concatenates_S8x128_S8x128_S16x128_d0) bitsLt_bf16_f32

/-- Sixteen rows of block scales spread over the tile's 512 columns. -/
def spreadRow (n : BitVec 32) (aw : FVec F S16x128 .f32) : FVec F S16x512 .bf16 :=
  concatenate S16x512 1 (List.ofFn fun h : Fin 4 => ⟨S16x128, spread n aw (BitVec.ofNat 32 (2 * h.val))⟩)
    concatenates_S16x128_S16x128_S16x128_S16x128_S16x512_d1

/-- The block scales of all 256 rows spread over the tile. -/
def spreadAll (n : BitVec 32) (aw : Fin 16 → FVec F S16x128 .f32) : FVec F S256x512 .bf16 :=
  concatenate S256x512 0 (List.ofFn fun g : Fin 16 => ⟨S16x512, spreadRow n (aw g)⟩)
    concatenates_S16x512_S16x512_S16x512_S16x512_S16x512_S16x512_S16x512_S16x512_S16x512_S16x512_S16x512_S16x512_S16x512_S16x512_S16x512_S16x512_S256x512_d0

/-- One point's accumulation: the accumulator plus the activations times the decoded, scaled weights. -/
def step (n : BitVec 32) (p : Vec F S128x512 .i8) (aw : Fin 16 → FVec F S16x128 .f32) (acc : Vec F S2048x512 .f32) (x : Vec F S2048x256 .bf16) :
    FVec F S2048x512 .f32 :=
  shapeCast S2048x512
    (addf acc
      (matmul dot_S2048x256_S256x512_S2048x512_1_0_0_1_n_n none (shapeCast S2048x256 x shapeCasts_S2048x256_S2048x256)
        (mulf (decoded p) (spreadAll n aw)) (constant S2048x512 .f32 0x00000000#32)))
    shapeCasts_S2048x512_S2048x512

/-- The zero block the first point of a run starts from. -/
def zero : FVec F S2048x512 .f32 := k0_pay2

/-- Sixteen loaded rows widened. -/
def widen (L : FVec F S16x128 .bf16) : FVec F S16x128 .f32 := extf .f32 L bitsLt_bf16_f32

/-- The offset the body reads: the one element of its array. -/
def offset (x0 : Vec F S1 .f32) : Elt F .f32 := View.ld x0 (Rect.unit ![0] ![1] inb_S1_S1_0) (Shape.Idx.first (by decide))

/-- The stored block scales as row group `g` reads them, were lanes 64 to 127 a copy of the first 64. -/
def rows (A : FVec F S256x64 .bf16) (g : Fin 16) : FVec F S16x128 .bf16 :=
  fun y => A (ix2 ⟨16 * g.val + (y 0).val, by have : (y 0).val < 16 := (y 0).isLt; omega⟩ ⟨(y 1).val % 64, Nat.mod_lt _ (by decide)⟩)

/-- Rows `16 g …` of the scratch are inside it. -/
theorem inbRows (g : Fin 16) : ∀ a, (![16 * g.val, 0] : Fin 2 → Nat) a + (![16, 128] : Fin 2 → Nat) a ≤ S256x128.size a := by
  revert g; decide

/-- Rows `16 g …` of the scratch. -/
abbrev rowsRect (g : Fin 16) : Rect S256x128 := Rect.unit ![16 * g.val, 0] ![16, 128] (inbRows g)

/-- The one store of a point into the scratch: the block scales, in its first 64 lanes. -/
abbrev stored (A : FVec F S256x64 .bf16) : List (View.Piece (Elt F) S256x128 .bf16) :=
  [⟨Rect.unit ![0, 0] ![256, 64] inb_S256x128_S256x64_0_0, k0_pay45 A⟩]

/-- The sixteen rows group `g` loads from the scratch, whatever it held (`f`) before the block scales `A` were stored. -/
def loaded {v : View sig .tc .vmem S256x128 .bf16} (f : v.ty.Contents (Elt F)) (A : FVec F S256x64 .bf16) (g : Fin 16) : FVec F S16x128 .bf16 :=
  v.readAt (Elt F) (rowsRect g).toLoadRect (v.writes (Elt F) f (stored A))

/-- What runs with any fixed scratch contents runs when the contents are not known. -/
theorem exists_scratch {ι : Type _} {A0 A1 A2 A3 A4 A5 A6 B Q : sProp (MT nD τ sig Unit (Elt F) ℕ (UR sig nD τ) ℕ)} {Φ : ι → sProp (MT nD τ sig Unit (Elt F) ℕ (UR sig nD τ) ℕ)}
    (h : ∀ d, iprop(A0 ∗ A1 ∗ A2 ∗ A3 ∗ A4 ∗ A5 ∗ A6 ∗ Φ d ∗ Q) ⊢ B) : iprop(A0 ∗ A1 ∗ A2 ∗ A3 ∗ A4 ∗ A5 ∗ A6 ∗ (∃ d, Φ d) ∗ Q) ⊢ B := by
  iintro ⟨H0, H1, H2, H3, H4, H5, H6, ⟨%d, H7⟩, H8⟩
  iapply (h d)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- A run's property at the pieces it leaves holds at pieces equal to them. -/
theorem of_run {α β γ : Type _} {P : α → β → γ → Prop} (r : Σ' a, Σ' b, {z // P a b z}) {a : α} {b : β} {z : γ} (ha : r.1 = a) (hb : r.2.1 = b) (hz : r.2.2.1 = z) :
    P a b z := by
  subst ha hb hz
  exact r.2.2.2

/-! ## The lanes no gather reads -/

/-- The wrapped index a block-scale gather takes at a lane: no wrap, and the block the lane lies in. -/
theorem colWord : ∀ (n : Fin 8) (h : Fin 4) (l : Fin 128),
    Scalar.select (IntOp.cmpi CmpIPredicate.slt (IntOp.addi (Scalar.addi (Scalar.muli (BitVec.ofNat 32 n.val) 8#32) (BitVec.ofNat 32 (2 * h.val))) (IntOp.shrsi ArithUnit.vector (BitVec.ofNat 32 l.val) 6#32)) 0#32)
      (IntOp.addi (IntOp.addi (Scalar.addi (Scalar.muli (BitVec.ofNat 32 n.val) 8#32) (BitVec.ofNat 32 (2 * h.val))) (IntOp.shrsi ArithUnit.vector (BitVec.ofNat 32 l.val) 6#32)) 128#32)
      (IntOp.addi (Scalar.addi (Scalar.muli (BitVec.ofNat 32 n.val) 8#32) (BitVec.ofNat 32 (2 * h.val))) (IntOp.shrsi ArithUnit.vector (BitVec.ofNat 32 l.val) 6#32))
      = BitVec.ofNat 32 (8 * n.val + 2 * h.val + l.val / 64) := by
  decide +kernel

/-- The index a block-scale gather takes at a lane, as a word. -/
theorem colIdx_at (n : Fin 8) (h : Fin 4) (r : Fin 8) (l : Fin 128) :
    colIdx (BitVec.ofNat 32 n.val) (BitVec.ofNat 32 (2 * h.val)) (ix2 r l) = BitVec.ofNat 32 (8 * n.val + 2 * h.val + l.val / 64) := by
  pointwise [colIdx, wrapIdx]
  exact colWord n h l

/-- A gather of eight rows of block scales reads lanes below 64 only. -/
theorem gather_congr (n : Fin 8) (h : Fin 4) (a b : FVec F S8x128 .f32) (hab : ∀ (r : Fin 8) (k : Fin 128), k.val < 64 → a (ix2 r k) = b (ix2 r k)) :
    dynamicGather 1 a (colIdx (BitVec.ofNat 32 n.val) (BitVec.ofNat 32 (2 * h.val)))
      = dynamicGather 1 b (colIdx (BitVec.ofNat 32 n.val) (BitVec.ofNat 32 (2 * h.val))) := by
  have hw (l : Fin 128) : (BitVec.ofNat 32 (8 * n.val + 2 * h.val + l.val / 64)).toNat % 128 = 8 * n.val + 2 * h.val + l.val / 64 := by
    rw [BitVec.toNat_ofNat]; omega
  funext y
  obtain ⟨r, l, rfl⟩ : ∃ (r : Fin 8) (l : Fin 128), y = ix2 r l := ⟨y 0, y 1, by idx_vars y⟩
  pointwise [dynamicGather_apply, colIdx_at]
  refine (congrArg a (a₂ := ix2 r ⟨8 * n.val + 2 * h.val + l.val / 64, by omega⟩) ?_).trans
    ((hab r _ (by simp only; omega)).trans (congrArg b (a₁ := ix2 r ⟨8 * n.val + 2 * h.val + l.val / 64, by omega⟩) ?_))
  · funext d
    match d with
    | ⟨0, _⟩ => rfl
    | ⟨1, _⟩ => exact Fin.ext (hw l)
  · funext d
    match d with
    | ⟨0, _⟩ => rfl
    | ⟨1, _⟩ => exact (Fin.ext (hw l)).symm

/-- Spreading sixteen rows over a column group reads lanes below 64 only. -/
theorem spread_congr (n : Fin 8) (h : Fin 4) (a b : FVec F S16x128 .f32) (hab : ∀ (r : Fin 16) (k : Fin 128), k.val < 64 → a (ix2 r k) = b (ix2 r k)) :
    spread (BitVec.ofNat 32 n.val) a (BitVec.ofNat 32 (2 * h.val)) = spread (BitVec.ofNat 32 n.val) b (BitVec.ofNat 32 (2 * h.val)) := by
  unfold spread
  rw [gather_congr n h (extractStridedSlice S8x128 ![0, 0] a slices_S16x128_o0_0_S8x128) (extractStridedSlice S8x128 ![0, 0] b slices_S16x128_o0_0_S8x128)
      (fun r k hk => by pointwise; exact hab _ k hk),
    gather_congr n h (extractStridedSlice S8x128 ![8, 0] a slices_S16x128_o8_0_S8x128) (extractStridedSlice S8x128 ![8, 0] b slices_S16x128_o8_0_S8x128)
      (fun r k hk => by pointwise; exact hab _ k hk)]

/-- A point reads lanes below 64 of the loaded rows only. -/
theorem step_congr (n : Fin 8) (p : Vec F S128x512 .i8) (a b : Fin 16 → FVec F S16x128 .f32)
    (hab : ∀ (g : Fin 16) (r : Fin 16) (k : Fin 128), k.val < 64 → a g (ix2 r k) = b g (ix2 r k)) (acc : Vec F S2048x512 .f32) (x : Vec F S2048x256 .bf16) :
    step (BitVec.ofNat 32 n.val) p a acc x = step (BitVec.ofNat 32 n.val) p b acc x := by
  have e : spreadAll (BitVec.ofNat 32 n.val) a = spreadAll (BitVec.ofNat 32 n.val) b := by
    refine congrArg (fun u : Fin 16 → FVec F S16x512 .bf16 => concatenate S256x512 0 (List.ofFn fun g : Fin 16 => ⟨S16x512, u g⟩)
      concatenates_S16x512_S16x512_S16x512_S16x512_S16x512_S16x512_S16x512_S16x512_S16x512_S16x512_S16x512_S16x512_S16x512_S16x512_S16x512_S16x512_S256x512_d0)
      (funext fun g => ?_)
    exact congrArg (fun u : Fin 4 → FVec F S16x128 .bf16 => concatenate S16x512 1 (List.ofFn fun h : Fin 4 => ⟨S16x128, u h⟩)
      concatenates_S16x128_S16x128_S16x128_S16x128_S16x512_d1) (funext fun h => spread_congr n h _ _ (hab g))
  unfold step
  rw [e]

/-- Below lane 64 a row group loads the block scales just stored, whatever the scratch held. -/
theorem loaded_at {v : View sig .tc .vmem S256x128 .bf16} (f : v.ty.Contents (Elt F)) (A : FVec F S256x64 .bf16) (g : Fin 16) (r : Fin 16) (k : Fin 128) (hk : k.val < 64) :
    loaded f A g (ix2 r k) = rows A g (ix2 r k) := by
  have e : (rowsRect g).toLoadRect.idx (ix2 r k)
      = (Rect.unit (s := S256x128) ![0, 0] S256x64.size inb_S256x128_S256x64_0_0).emb (ix2 ⟨16 * g.val + r.val, by omega⟩ ⟨k.val, hk⟩ : S256x64.Idx) := by
    funext a
    apply Fin.ext
    match a with
    | ⟨0, _⟩ => show 16 * g.val + 1 * r.val = 0 + 1 * (16 * g.val + r.val); omega
    | ⟨1, _⟩ => show 0 + 1 * k.val = 0 + 1 * k.val; rfl
  unfold loaded
  rw [View.readAt_apply, e]
  refine (View.read_writes_cons_emb _ _ _ _ _ _).trans ?_
  pointwise [k0_pay45, rows]
  congr 2
  exact Fin.ext (Nat.mod_eq_of_lt hk).symm

/-- A point leaves the same whatever the scratch held. -/
theorem step_rows (i : grid0.Coords) (p : Vec F S128x512 .i8) {v : View sig .tc .vmem S256x128 .bf16} (f : v.ty.Contents (Elt F)) (A : FVec F S256x64 .bf16)
    (acc : Vec F S2048x512 .f32) (x : Vec F S2048x256 .bf16) :
    step (BitVec.ofNat 32 (i 0).val) p (fun g => widen (loaded f A g)) acc x = step (BitVec.ofNat 32 (i 0).val) p (fun g => widen (rows A g)) acc x :=
  step_congr (i 0) p _ _ (fun g r k hk => by pointwise [widen]; rw [loaded_at f A g r k hk]) acc x

end Cert.Kernel.Tile

end
-- ==== Proof.Kernel.RunA.lean ====
/-
  Kernel: the run of the body at the first point of a run of 43.

  The scratch that holds the block scales is read in all its 128 lanes and stored in 64, so the run is found first with
  that scratch's contents fixed (`runAt_A`). What it leaves does not depend on them (`Tile.step_rows`), so the run holds at
  any contents (`kernelRun0_A`, in Body.lean).
-/
module

public import proofs.«01_k».proof.Proof.Kernel.Tile

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at the first point of a run of 43, with the block scales' scratch holding `d9` before it: the
    pieces it leaves in the output block, in the accumulator and in the scratch, with the proof that it does. -/
noncomputable def runAt_A (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : cond0_0 i) (hc1 : ¬cond0_1 i)
    (x0 : Vec F S1 .f32) (x1 : Vec F S2048x256 .bf16) (x2 : Vec F S128x512 .i8) (x3 : Vec F S256x64 .i8) (x4 : Vec F S1x1x64 .f32) (d9 : Vec F S256x128 .bf16) :
    Σ' (L5 : List (View.Piece (Elt F) S2048x512 .bf16)), Σ' (LS0 : List (View.Piece (Elt F) S2048x512 .f32)), { LT1 : List (View.Piece (Elt F) S256x128 .bf16) //
      ∀ (xi5 : Vec F S2048x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
  refine ⟨[], ?_, ?_, fun xi5 E K => ?run⟩
  case run =>
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 4000000 in
/-- In the accumulator the run leaves one point's `Tile.step`, over the zero block, whatever the scratch held. -/
theorem acc_A (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : cond0_0 i) (hc1 : ¬cond0_1 i)
    (x0 : Vec F S1 .f32) (x1 : Vec F S2048x256 .bf16) (x2 : Vec F S128x512 .i8) (x3 : Vec F S256x64 .i8) (x4 : Vec F S1x1x64 .f32) (d9 : Vec F S256x128 .bf16) :
    (runAt_A c i arg2 harg2 arg3 harg3 arg4 harg4 arg5 harg5 arg6 harg6 arg7 harg7 arg8 harg8 arg9 harg9 hc0 hc1 x0 x1 x2 x3 x4 d9).2.1 = [⟨Rect.unit ![0, 0] ![2048, 512] inb_S2048x512_S2048x512_0_0, Tile.step (BitVec.ofNat 32 (i 0).val) x2 (fun g => Tile.widen (Tile.rows (Tile.absmax (Tile.offset x0) x3 x4) g)) Tile.zero x1⟩, ⟨Rect.unit ![0, 0] ![2048, 512] inb_S2048x512_S2048x512_0_0, k0_pay2⟩] := by
  have h : (runAt_A c i arg2 harg2 arg3 harg3 arg4 harg4 arg5 harg5 arg6 harg6 arg7 harg7 arg8 harg8 arg9 harg9 hc0 hc1 x0 x1 x2 x3 x4 d9).2.1 = [⟨Rect.unit ![0, 0] ![2048, 512] inb_S2048x512_S2048x512_0_0, Tile.step (BitVec.ofNat 32 (i 0).val)
        (arg4.view.readAt (Elt F) (Rect.unit ![0, 0] S128x512.size inb_S128x512_S128x512_0_0).toLoadRect (harg4.unread x2))
        (fun g => Tile.widen (Tile.loaded (v := arg9.view) (harg9.unread d9)
          (Tile.absmax (arg2.view.readAt (Elt F) (Rect.unit ![0] S1.size inb_S1_S1_0).toLoadRect (harg2.unread x0) (Shape.Idx.first (by decide)))
            (arg5.view.readAt (Elt F) (Rect.unit ![0, 0] S256x64.size inb_S256x64_S256x64_0_0).toLoadRect (harg5.unread x3))
            (arg6.view.readAt (Elt F) (Rect.unit ![0, 0, 0] S1x1x64.size inb_S1x1x64_S1x1x64_0_0_0).toLoadRect (harg6.unread x4))) g))
        (arg8.view.readCov (Val := Elt F) [⟨Rect.unit ![0, 0] ![2048, 512] inb_S2048x512_S2048x512_0_0, k0_pay2⟩] (Rect.unit ![0, 0] S2048x512.size inb_S2048x512_S2048x512_0_0).toLoadRect)
        (arg3.view.readAt (Elt F) (Rect.unit ![0, 0] S2048x256.size inb_S2048x256_S2048x256_0_0).toLoadRect (harg3.unread x1))⟩, ⟨Rect.unit ![0, 0] ![2048, 512] inb_S2048x512_S2048x512_0_0, k0_pay2⟩] := rfl
  rw [h]
  simp (disch := decide) only [View.readAt_eq_ld, Memref.IsWhole.read_unread, View.ld_unit_lit', View.readCov_unit_lit', Tile.step_rows]
  rfl

set_option maxHeartbeats 4000000 in
/-- In the scratch it leaves the block scales. -/
theorem scratch_A (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : cond0_0 i) (hc1 : ¬cond0_1 i)
    (x0 : Vec F S1 .f32) (x1 : Vec F S2048x256 .bf16) (x2 : Vec F S128x512 .i8) (x3 : Vec F S256x64 .i8) (x4 : Vec F S1x1x64 .f32) (d9 : Vec F S256x128 .bf16) :
    (runAt_A c i arg2 harg2 arg3 harg3 arg4 harg4 arg5 harg5 arg6 harg6 arg7 harg7 arg8 harg8 arg9 harg9 hc0 hc1 x0 x1 x2 x3 x4 d9).2.2.1 = Tile.stored (Tile.absmax (Tile.offset x0) x3 x4) := by
  have h : (runAt_A c i arg2 harg2 arg3 harg3 arg4 harg4 arg5 harg5 arg6 harg6 arg7 harg7 arg8 harg8 arg9 harg9 hc0 hc1 x0 x1 x2 x3 x4 d9).2.2.1 = Tile.stored
          (Tile.absmax (arg2.view.readAt (Elt F) (Rect.unit ![0] S1.size inb_S1_S1_0).toLoadRect (harg2.unread x0) (Shape.Idx.first (by decide)))
            (arg5.view.readAt (Elt F) (Rect.unit ![0, 0] S256x64.size inb_S256x64_S256x64_0_0).toLoadRect (harg5.unread x3))
            (arg6.view.readAt (Elt F) (Rect.unit ![0, 0, 0] S1x1x64.size inb_S1x1x64_S1x1x64_0_0_0).toLoadRect (harg6.unread x4))) := rfl
  rw [h]
  simp (disch := decide) only [View.readAt_eq_ld, Memref.IsWhole.read_unread, View.ld_unit_lit']
  rfl

end Cert.Kernel.Gen

end
-- ==== Proof.Kernel.RunB.lean ====
/-
  Kernel: the run of the body at a point inside a run of 43.

  The scratch that holds the block scales is read in all its 128 lanes and stored in 64, so the run is found first with
  that scratch's contents fixed (`runAt_B`). What it leaves does not depend on them (`Tile.step_rows`), so the run holds at
  any contents (`kernelRun0_B`, in Body.lean).
-/
module

public import proofs.«01_k».proof.Proof.Kernel.Tile

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at a point inside a run of 43, with the block scales' scratch holding `d9` before it: the
    pieces it leaves in the output block, in the accumulator and in the scratch, with the proof that it does. -/
noncomputable def runAt_B (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : ¬cond0_1 i)
    (x0 : Vec F S1 .f32) (x1 : Vec F S2048x256 .bf16) (x2 : Vec F S128x512 .i8) (x3 : Vec F S256x64 .i8) (x4 : Vec F S1x1x64 .f32) (xs0 : Vec F S2048x512 .f32) (d9 : Vec F S256x128 .bf16) :
    Σ' (L5 : List (View.Piece (Elt F) S2048x512 .bf16)), Σ' (LS0 : List (View.Piece (Elt F) S2048x512 .f32)), { LT1 : List (View.Piece (Elt F) S256x128 .bf16) //
      ∀ (xi5 : Vec F S2048x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
  refine ⟨[], ?_, ?_, fun xi5 E K => ?run⟩
  case run =>
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 4000000 in
/-- In the accumulator the run leaves one point's `Tile.step`, whatever the scratch held. -/
theorem acc_B (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : ¬cond0_1 i)
    (x0 : Vec F S1 .f32) (x1 : Vec F S2048x256 .bf16) (x2 : Vec F S128x512 .i8) (x3 : Vec F S256x64 .i8) (x4 : Vec F S1x1x64 .f32) (xs0 : Vec F S2048x512 .f32) (d9 : Vec F S256x128 .bf16) :
    (runAt_B c i arg2 harg2 arg3 harg3 arg4 harg4 arg5 harg5 arg6 harg6 arg7 harg7 arg8 harg8 arg9 harg9 hc0 hc1 x0 x1 x2 x3 x4 xs0 d9).2.1 = [⟨Rect.unit ![0, 0] ![2048, 512] inb_S2048x512_S2048x512_0_0, Tile.step (BitVec.ofNat 32 (i 0).val) x2 (fun g => Tile.widen (Tile.rows (Tile.absmax (Tile.offset x0) x3 x4) g)) xs0 x1⟩] := by
  have h : (runAt_B c i arg2 harg2 arg3 harg3 arg4 harg4 arg5 harg5 arg6 harg6 arg7 harg7 arg8 harg8 arg9 harg9 hc0 hc1 x0 x1 x2 x3 x4 xs0 d9).2.1 = [⟨Rect.unit ![0, 0] ![2048, 512] inb_S2048x512_S2048x512_0_0, Tile.step (BitVec.ofNat 32 (i 0).val)
        (arg4.view.readAt (Elt F) (Rect.unit ![0, 0] S128x512.size inb_S128x512_S128x512_0_0).toLoadRect (harg4.unread x2))
        (fun g => Tile.widen (Tile.loaded (v := arg9.view) (harg9.unread d9)
          (Tile.absmax (arg2.view.readAt (Elt F) (Rect.unit ![0] S1.size inb_S1_S1_0).toLoadRect (harg2.unread x0) (Shape.Idx.first (by decide)))
            (arg5.view.readAt (Elt F) (Rect.unit ![0, 0] S256x64.size inb_S256x64_S256x64_0_0).toLoadRect (harg5.unread x3))
            (arg6.view.readAt (Elt F) (Rect.unit ![0, 0, 0] S1x1x64.size inb_S1x1x64_S1x1x64_0_0_0).toLoadRect (harg6.unread x4))) g))
        (arg8.view.readAt (Elt F) (Rect.unit ![0, 0] S2048x512.size inb_S2048x512_S2048x512_0_0).toLoadRect (harg8.unread xs0))
        (arg3.view.readAt (Elt F) (Rect.unit ![0, 0] S2048x256.size inb_S2048x256_S2048x256_0_0).toLoadRect (harg3.unread x1))⟩] := rfl
  rw [h]
  simp (disch := decide) only [View.readAt_eq_ld, Memref.IsWhole.read_unread, View.ld_unit_lit', View.readCov_unit_lit', Tile.step_rows]
  rfl

set_option maxHeartbeats 4000000 in
/-- In the scratch it leaves the block scales. -/
theorem scratch_B (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : ¬cond0_1 i)
    (x0 : Vec F S1 .f32) (x1 : Vec F S2048x256 .bf16) (x2 : Vec F S128x512 .i8) (x3 : Vec F S256x64 .i8) (x4 : Vec F S1x1x64 .f32) (xs0 : Vec F S2048x512 .f32) (d9 : Vec F S256x128 .bf16) :
    (runAt_B c i arg2 harg2 arg3 harg3 arg4 harg4 arg5 harg5 arg6 harg6 arg7 harg7 arg8 harg8 arg9 harg9 hc0 hc1 x0 x1 x2 x3 x4 xs0 d9).2.2.1 = Tile.stored (Tile.absmax (Tile.offset x0) x3 x4) := by
  have h : (runAt_B c i arg2 harg2 arg3 harg3 arg4 harg4 arg5 harg5 arg6 harg6 arg7 harg7 arg8 harg8 arg9 harg9 hc0 hc1 x0 x1 x2 x3 x4 xs0 d9).2.2.1 = Tile.stored
          (Tile.absmax (arg2.view.readAt (Elt F) (Rect.unit ![0] S1.size inb_S1_S1_0).toLoadRect (harg2.unread x0) (Shape.Idx.first (by decide)))
            (arg5.view.readAt (Elt F) (Rect.unit ![0, 0] S256x64.size inb_S256x64_S256x64_0_0).toLoadRect (harg5.unread x3))
            (arg6.view.readAt (Elt F) (Rect.unit ![0, 0, 0] S1x1x64.size inb_S1x1x64_S1x1x64_0_0_0).toLoadRect (harg6.unread x4))) := rfl
  rw [h]
  simp (disch := decide) only [View.readAt_eq_ld, Memref.IsWhole.read_unread, View.ld_unit_lit']
  rfl

end Cert.Kernel.Gen

end
-- ==== Proof.Kernel.RunC.lean ====
/-
  Kernel: the run of the body at the last point of a run of 43.

  The scratch that holds the block scales is read in all its 128 lanes and stored in 64, so the run is found first with
  that scratch's contents fixed (`runAt_C`). What it leaves does not depend on them (`Tile.step_rows`), so the run holds at
  any contents (`kernelRun0_C`, in Body.lean).
-/
module

public import proofs.«01_k».proof.Proof.Kernel.Tile

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at the last point of a run of 43, with the block scales' scratch holding `d9` before it: the
    pieces it leaves in the output block, in the accumulator and in the scratch, with the proof that it does. -/
noncomputable def runAt_C (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : cond0_1 i)
    (x0 : Vec F S1 .f32) (x1 : Vec F S2048x256 .bf16) (x2 : Vec F S128x512 .i8) (x3 : Vec F S256x64 .i8) (x4 : Vec F S1x1x64 .f32) (xs0 : Vec F S2048x512 .f32) (d9 : Vec F S256x128 .bf16) :
    Σ' (L5 : List (View.Piece (Elt F) S2048x512 .bf16)), Σ' (LS0 : List (View.Piece (Elt F) S2048x512 .f32)), { LT1 : List (View.Piece (Elt F) S256x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
  refine ⟨?_, ?_, ?_, fun E K => ?run⟩
  case run =>
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

set_option maxHeartbeats 4000000 in
/-- In the accumulator the run leaves one point's `Tile.step`, whatever the scratch held. -/
theorem acc_C (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : cond0_1 i)
    (x0 : Vec F S1 .f32) (x1 : Vec F S2048x256 .bf16) (x2 : Vec F S128x512 .i8) (x3 : Vec F S256x64 .i8) (x4 : Vec F S1x1x64 .f32) (xs0 : Vec F S2048x512 .f32) (d9 : Vec F S256x128 .bf16) :
    (runAt_C c i arg2 harg2 arg3 harg3 arg4 harg4 arg5 harg5 arg6 harg6 arg7 harg7 arg8 harg8 arg9 harg9 hc0 hc1 x0 x1 x2 x3 x4 xs0 d9).2.1 = [⟨Rect.unit ![0, 0] ![2048, 512] inb_S2048x512_S2048x512_0_0, Tile.step (BitVec.ofNat 32 (i 0).val) x2 (fun g => Tile.widen (Tile.rows (Tile.absmax (Tile.offset x0) x3 x4) g)) xs0 x1⟩] := by
  have h : (runAt_C c i arg2 harg2 arg3 harg3 arg4 harg4 arg5 harg5 arg6 harg6 arg7 harg7 arg8 harg8 arg9 harg9 hc0 hc1 x0 x1 x2 x3 x4 xs0 d9).2.1 = [⟨Rect.unit ![0, 0] ![2048, 512] inb_S2048x512_S2048x512_0_0, Tile.step (BitVec.ofNat 32 (i 0).val)
        (arg4.view.readAt (Elt F) (Rect.unit ![0, 0] S128x512.size inb_S128x512_S128x512_0_0).toLoadRect (harg4.unread x2))
        (fun g => Tile.widen (Tile.loaded (v := arg9.view) (harg9.unread d9)
          (Tile.absmax (arg2.view.readAt (Elt F) (Rect.unit ![0] S1.size inb_S1_S1_0).toLoadRect (harg2.unread x0) (Shape.Idx.first (by decide)))
            (arg5.view.readAt (Elt F) (Rect.unit ![0, 0] S256x64.size inb_S256x64_S256x64_0_0).toLoadRect (harg5.unread x3))
            (arg6.view.readAt (Elt F) (Rect.unit ![0, 0, 0] S1x1x64.size inb_S1x1x64_S1x1x64_0_0_0).toLoadRect (harg6.unread x4))) g))
        (arg8.view.readAt (Elt F) (Rect.unit ![0, 0] S2048x512.size inb_S2048x512_S2048x512_0_0).toLoadRect (harg8.unread xs0))
        (arg3.view.readAt (Elt F) (Rect.unit ![0, 0] S2048x256.size inb_S2048x256_S2048x256_0_0).toLoadRect (harg3.unread x1))⟩] := rfl
  rw [h]
  simp (disch := decide) only [View.readAt_eq_ld, Memref.IsWhole.read_unread, View.ld_unit_lit', View.readCov_unit_lit', Tile.step_rows]
  rfl

set_option maxHeartbeats 4000000 in
/-- In the scratch it leaves the block scales. -/
theorem scratch_C (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : cond0_1 i)
    (x0 : Vec F S1 .f32) (x1 : Vec F S2048x256 .bf16) (x2 : Vec F S128x512 .i8) (x3 : Vec F S256x64 .i8) (x4 : Vec F S1x1x64 .f32) (xs0 : Vec F S2048x512 .f32) (d9 : Vec F S256x128 .bf16) :
    (runAt_C c i arg2 harg2 arg3 harg3 arg4 harg4 arg5 harg5 arg6 harg6 arg7 harg7 arg8 harg8 arg9 harg9 hc0 hc1 x0 x1 x2 x3 x4 xs0 d9).2.2.1 = Tile.stored (Tile.absmax (Tile.offset x0) x3 x4) := by
  have h : (runAt_C c i arg2 harg2 arg3 harg3 arg4 harg4 arg5 harg5 arg6 harg6 arg7 harg7 arg8 harg8 arg9 harg9 hc0 hc1 x0 x1 x2 x3 x4 xs0 d9).2.2.1 = Tile.stored
          (Tile.absmax (arg2.view.readAt (Elt F) (Rect.unit ![0] S1.size inb_S1_S1_0).toLoadRect (harg2.unread x0) (Shape.Idx.first (by decide)))
            (arg5.view.readAt (Elt F) (Rect.unit ![0, 0] S256x64.size inb_S256x64_S256x64_0_0).toLoadRect (harg5.unread x3))
            (arg6.view.readAt (Elt F) (Rect.unit ![0, 0, 0] S1x1x64.size inb_S1x1x64_S1x1x64_0_0_0).toLoadRect (harg6.unread x4))) := rfl
  rw [h]
  simp (disch := decide) only [View.readAt_eq_ld, Memref.IsWhole.read_unread, View.ld_unit_lit']
  rfl

set_option maxHeartbeats 4000000 in
/-- In the output block it leaves the accumulator, rounded. -/
theorem out_C (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : cond0_1 i)
    (x0 : Vec F S1 .f32) (x1 : Vec F S2048x256 .bf16) (x2 : Vec F S128x512 .i8) (x3 : Vec F S256x64 .i8) (x4 : Vec F S1x1x64 .f32) (xs0 : Vec F S2048x512 .f32) (d9 : Vec F S256x128 .bf16) :
    (runAt_C c i arg2 harg2 arg3 harg3 arg4 harg4 arg5 harg5 arg6 harg6 arg7 harg7 arg8 harg8 arg9 harg9 hc0 hc1 x0 x1 x2 x3 x4 xs0 d9).1 = [⟨Rect.unit ![0, 0] ![2048, 512] inb_S2048x512_S2048x512_0_0, k0_pay4 (Tile.step (BitVec.ofNat 32 (i 0).val) x2 (fun g => Tile.widen (Tile.rows (Tile.absmax (Tile.offset x0) x3 x4) g)) xs0 x1)⟩] := by
  have e := acc_C c i arg2 harg2 arg3 harg3 arg4 harg4 arg5 harg5 arg6 harg6 arg7 harg7 arg8 harg8 arg9 harg9 hc0 hc1 x0 x1 x2 x3 x4 xs0 d9
  dsimp only [runAt_C] at e ⊢
  unfold runAt_C.sl.v2265
  rw [e]
  exact congrArg (fun u => [(⟨Rect.unit ![0, 0] ![2048, 512] inb_S2048x512_S2048x512_0_0, k0_pay4 u⟩ : View.Piece (Elt F) S2048x512 .bf16)]) (View.readCov_unit_lit' _ _ _ (by decide))

end Cert.Kernel.Gen

end
-- ==== Proof.Kernel.Body.lean ====
/-
  Kernel: the three runs of the body, at any contents of the scratch that holds the block scales.
-/
module

public import proofs.«01_k».proof.Proof.Kernel.RunA
public import proofs.«01_k».proof.Proof.Kernel.RunB
public import proofs.«01_k».proof.Proof.Kernel.RunC

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at the first point of a run of 43, with the scratch holding `d9`, and what it leaves. -/
theorem body_A (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : cond0_0 i) (hc1 : ¬cond0_1 i)
    (x0 : Vec F S1 .f32) (x1 : Vec F S2048x256 .bf16) (x2 : Vec F S128x512 .i8) (x3 : Vec F S256x64 .i8) (x4 : Vec F S1x1x64 .f32) (d9 : Vec F S256x128 .bf16)
    (xi5 : Vec F S2048x512 .bf16) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f [⟨Rect.unit ![0, 0] ![2048, 512] inb_S2048x512_S2048x512_0_0, Tile.step (BitVec.ofNat 32 (i 0).val) x2 (fun g => Tile.widen (Tile.rows (Tile.absmax (Tile.offset x0) x3 x4) g)) Tile.zero x1⟩, ⟨Rect.unit ![0, 0] ![2048, 512] inb_S2048x512_S2048x512_0_0, k0_pay2⟩]) ∗ (∃ f, arg9.view.loc (c : Thread nD τ) ↦[arg9.view.set]{fullShare} arg9.view.writes (Elt F) f (Tile.stored (Tile.absmax (Tile.offset x0) x3 x4)))) -∗ K ⟨⟩))
          ⊢ wp frame (wpE (defs₀ (F := F)) Variants.none c none) E (cc0__body i arg2 harg2 arg3 harg3 arg4 harg4 arg5 harg5 arg6 harg6 arg7 harg7 arg8 harg8 arg9 harg9) K :=
  Tile.of_run (runAt_A c i arg2 harg2 arg3 harg3 arg4 harg4 arg5 harg5 arg6 harg6 arg7 harg7 arg8 harg8 arg9 harg9 hc0 hc1 x0 x1 x2 x3 x4 d9) rfl (acc_A c i arg2 harg2 arg3 harg3 arg4 harg4 arg5 harg5 arg6 harg6 arg7 harg7 arg8 harg8 arg9 harg9 hc0 hc1 x0 x1 x2 x3 x4 d9) (scratch_A c i arg2 harg2 arg3 harg3 arg4 harg4 arg5 harg5 arg6 harg6 arg7 harg7 arg8 harg8 arg9 harg9 hc0 hc1 x0 x1 x2 x3 x4 d9) xi5 E K

/-- The body's run at the first point of a run of 43, whatever the scratches not carried into it hold. -/
noncomputable def kernelRun0_A (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : cond0_0 i) (hc1 : ¬cond0_1 i)
    (x0 : Vec F S1 .f32) (x1 : Vec F S2048x256 .bf16) (x2 : Vec F S128x512 .i8) (x3 : Vec F S256x64 .i8) (x4 : Vec F S1x1x64 .f32) :
    Σ' (L5 : List (View.Piece (Elt F) S2048x512 .bf16)), Σ' (LS0 : List (View.Piece (Elt F) S2048x512 .f32)), { LT1 : List (View.Piece (Elt F) S256x128 .bf16) //
      ∀ (xi5 : Vec F S2048x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0__body i arg2 harg2 arg3 harg3 arg4 harg4 arg5 harg5 arg6 harg6 arg7 harg7 arg8 harg8 arg9 harg9) K } :=
  ⟨[], [⟨Rect.unit ![0, 0] ![2048, 512] inb_S2048x512_S2048x512_0_0, Tile.step (BitVec.ofNat 32 (i 0).val) x2 (fun g => Tile.widen (Tile.rows (Tile.absmax (Tile.offset x0) x3 x4) g)) Tile.zero x1⟩, ⟨Rect.unit ![0, 0] ![2048, 512] inb_S2048x512_S2048x512_0_0, k0_pay2⟩], Tile.stored (Tile.absmax (Tile.offset x0) x3 x4), fun xi5 E K => Tile.exists_scratch fun d9 => body_A c i arg2 harg2 arg3 harg3 arg4 harg4 arg5 harg5 arg6 harg6 arg7 harg7 arg8 harg8 arg9 harg9 hc0 hc1 x0 x1 x2 x3 x4 d9 xi5 E K⟩

set_option maxHeartbeats 1000000 in
/-- The body's run at a point inside a run of 43, with the scratch holding `d9`, and what it leaves. -/
theorem body_B (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : ¬cond0_1 i)
    (x0 : Vec F S1 .f32) (x1 : Vec F S2048x256 .bf16) (x2 : Vec F S128x512 .i8) (x3 : Vec F S256x64 .i8) (x4 : Vec F S1x1x64 .f32) (xs0 : Vec F S2048x512 .f32) (d9 : Vec F S256x128 .bf16)
    (xi5 : Vec F S2048x512 .bf16) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f [⟨Rect.unit ![0, 0] ![2048, 512] inb_S2048x512_S2048x512_0_0, Tile.step (BitVec.ofNat 32 (i 0).val) x2 (fun g => Tile.widen (Tile.rows (Tile.absmax (Tile.offset x0) x3 x4) g)) xs0 x1⟩]) ∗ (∃ f, arg9.view.loc (c : Thread nD τ) ↦[arg9.view.set]{fullShare} arg9.view.writes (Elt F) f (Tile.stored (Tile.absmax (Tile.offset x0) x3 x4)))) -∗ K ⟨⟩))
          ⊢ wp frame (wpE (defs₀ (F := F)) Variants.none c none) E (cc0__body i arg2 harg2 arg3 harg3 arg4 harg4 arg5 harg5 arg6 harg6 arg7 harg7 arg8 harg8 arg9 harg9) K :=
  Tile.of_run (runAt_B c i arg2 harg2 arg3 harg3 arg4 harg4 arg5 harg5 arg6 harg6 arg7 harg7 arg8 harg8 arg9 harg9 hc0 hc1 x0 x1 x2 x3 x4 xs0 d9) rfl (acc_B c i arg2 harg2 arg3 harg3 arg4 harg4 arg5 harg5 arg6 harg6 arg7 harg7 arg8 harg8 arg9 harg9 hc0 hc1 x0 x1 x2 x3 x4 xs0 d9) (scratch_B c i arg2 harg2 arg3 harg3 arg4 harg4 arg5 harg5 arg6 harg6 arg7 harg7 arg8 harg8 arg9 harg9 hc0 hc1 x0 x1 x2 x3 x4 xs0 d9) xi5 E K

/-- The body's run at a point inside a run of 43, whatever the scratches not carried into it hold. -/
noncomputable def kernelRun0_B (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : ¬cond0_1 i)
    (x0 : Vec F S1 .f32) (x1 : Vec F S2048x256 .bf16) (x2 : Vec F S128x512 .i8) (x3 : Vec F S256x64 .i8) (x4 : Vec F S1x1x64 .f32) (xs0 : Vec F S2048x512 .f32) :
    Σ' (L5 : List (View.Piece (Elt F) S2048x512 .bf16)), Σ' (LS0 : List (View.Piece (Elt F) S2048x512 .f32)), { LT1 : List (View.Piece (Elt F) S256x128 .bf16) //
      ∀ (xi5 : Vec F S2048x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0__body i arg2 harg2 arg3 harg3 arg4 harg4 arg5 harg5 arg6 harg6 arg7 harg7 arg8 harg8 arg9 harg9) K } :=
  ⟨[], [⟨Rect.unit ![0, 0] ![2048, 512] inb_S2048x512_S2048x512_0_0, Tile.step (BitVec.ofNat 32 (i 0).val) x2 (fun g => Tile.widen (Tile.rows (Tile.absmax (Tile.offset x0) x3 x4) g)) xs0 x1⟩], Tile.stored (Tile.absmax (Tile.offset x0) x3 x4), fun xi5 E K => Tile.exists_scratch fun d9 => body_B c i arg2 harg2 arg3 harg3 arg4 harg4 arg5 harg5 arg6 harg6 arg7 harg7 arg8 harg8 arg9 harg9 hc0 hc1 x0 x1 x2 x3 x4 xs0 d9 xi5 E K⟩

set_option maxHeartbeats 1000000 in
/-- The body's run at the last point of a run of 43, with the scratch holding `d9`, and what it leaves. -/
theorem body_C (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : cond0_1 i)
    (x0 : Vec F S1 .f32) (x1 : Vec F S2048x256 .bf16) (x2 : Vec F S128x512 .i8) (x3 : Vec F S256x64 .i8) (x4 : Vec F S1x1x64 .f32) (xs0 : Vec F S2048x512 .f32) (d9 : Vec F S256x128 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f [⟨Rect.unit ![0, 0] ![2048, 512] inb_S2048x512_S2048x512_0_0, k0_pay4 (Tile.step (BitVec.ofNat 32 (i 0).val) x2 (fun g => Tile.widen (Tile.rows (Tile.absmax (Tile.offset x0) x3 x4) g)) xs0 x1)⟩]) ∗ (∃ f, arg8.view.loc (c : Thread nD τ) ↦[arg8.view.set]{fullShare} arg8.view.writes (Elt F) f [⟨Rect.unit ![0, 0] ![2048, 512] inb_S2048x512_S2048x512_0_0, Tile.step (BitVec.ofNat 32 (i 0).val) x2 (fun g => Tile.widen (Tile.rows (Tile.absmax (Tile.offset x0) x3 x4) g)) xs0 x1⟩]) ∗ (∃ f, arg9.view.loc (c : Thread nD τ) ↦[arg9.view.set]{fullShare} arg9.view.writes (Elt F) f (Tile.stored (Tile.absmax (Tile.offset x0) x3 x4)))) -∗ K ⟨⟩))
          ⊢ wp frame (wpE (defs₀ (F := F)) Variants.none c none) E (cc0__body i arg2 harg2 arg3 harg3 arg4 harg4 arg5 harg5 arg6 harg6 arg7 harg7 arg8 harg8 arg9 harg9) K :=
  Tile.of_run (runAt_C c i arg2 harg2 arg3 harg3 arg4 harg4 arg5 harg5 arg6 harg6 arg7 harg7 arg8 harg8 arg9 harg9 hc0 hc1 x0 x1 x2 x3 x4 xs0 d9) (out_C c i arg2 harg2 arg3 harg3 arg4 harg4 arg5 harg5 arg6 harg6 arg7 harg7 arg8 harg8 arg9 harg9 hc0 hc1 x0 x1 x2 x3 x4 xs0 d9) (acc_C c i arg2 harg2 arg3 harg3 arg4 harg4 arg5 harg5 arg6 harg6 arg7 harg7 arg8 harg8 arg9 harg9 hc0 hc1 x0 x1 x2 x3 x4 xs0 d9) (scratch_C c i arg2 harg2 arg3 harg3 arg4 harg4 arg5 harg5 arg6 harg6 arg7 harg7 arg8 harg8 arg9 harg9 hc0 hc1 x0 x1 x2 x3 x4 xs0 d9) E K

/-- The body's run at the last point of a run of 43, whatever the scratches not carried into it hold. -/
noncomputable def kernelRun0_C (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : cond0_1 i)
    (x0 : Vec F S1 .f32) (x1 : Vec F S2048x256 .bf16) (x2 : Vec F S128x512 .i8) (x3 : Vec F S256x64 .i8) (x4 : Vec F S1x1x64 .f32) (xs0 : Vec F S2048x512 .f32) :
    Σ' (L5 : List (View.Piece (Elt F) S2048x512 .bf16)), Σ' (LS0 : List (View.Piece (Elt F) S2048x512 .f32)), { LT1 : List (View.Piece (Elt F) S256x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0__body i arg2 harg2 arg3 harg3 arg4 harg4 arg5 harg5 arg6 harg6 arg7 harg7 arg8 harg8 arg9 harg9) K } :=
  ⟨[⟨Rect.unit ![0, 0] ![2048, 512] inb_S2048x512_S2048x512_0_0, k0_pay4 (Tile.step (BitVec.ofNat 32 (i 0).val) x2 (fun g => Tile.widen (Tile.rows (Tile.absmax (Tile.offset x0) x3 x4) g)) xs0 x1)⟩], [⟨Rect.unit ![0, 0] ![2048, 512] inb_S2048x512_S2048x512_0_0, Tile.step (BitVec.ofNat 32 (i 0).val) x2 (fun g => Tile.widen (Tile.rows (Tile.absmax (Tile.offset x0) x3 x4) g)) xs0 x1⟩], Tile.stored (Tile.absmax (Tile.offset x0) x3 x4), fun E K => Tile.exists_scratch fun d9 => body_C c i arg2 harg2 arg3 harg3 arg4 harg4 arg5 harg5 arg6 harg6 arg7 harg7 arg8 harg8 arg9 harg9 hc0 hc1 x0 x1 x2 x3 x4 xs0 d9 E K⟩

end Cert.Kernel.Gen

end
-- ==== Proof.Kernel.Frame.lean ====
/-
  Kernel: the run of the whole kernel and its frame.

  What the output block and the accumulator hold after each point (`outsAt0`, by the three cases of the body), the data and
  the obligation of the pipeline at every point, the run (`run_main`) and the claim that the arguments end unchanged and
  every semaphore at zero (`frame`). The accumulator is carried from point to point; the scratch that holds the block
  scales is not: its contents are unknown before each point and forgotten after it.
-/
module

public import proofs.«01_k».proof.Proof.Kernel.Body
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : cond0_0 i) (hc1 : ¬cond0_1 i)
    (x0 : Vec F S1 .f32) (x1 : Vec F S2048x256 .bf16) (x2 : Vec F S128x512 .i8) (x3 : Vec F S256x64 .i8) (x4 : Vec F S1x1x64 .f32) : Vec F S2048x512 .bf16 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2 x3 x4).1)

/-- Case A's pieces for scratch `arg8`, which the kernel carries between points, cover it: 2 pieces of `S2048x512` tiling it (Lib/Ring.lean `Piece.tiledL`). -/
theorem scover0_A_0 (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : cond0_0 i) (hc1 : ¬cond0_1 i)
    (x0 : Vec F S1 .f32) (x1 : Vec F S2048x256 .bf16) (x2 : Vec F S128x512 .i8) (x3 : Vec F S256x64 .i8) (x4 : Vec F S1x1x64 .f32) (y : S2048x512.Idx) :
    ∃ pc ∈ (kernelRun0_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.1 S2048x512.size (by sl_kernel_rfl) y

/-- What case A leaves in scratch `arg8`: its pieces read back over junk. -/
def sout0_A_0 (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : cond0_0 i) (hc1 : ¬cond0_1 i)
    (x0 : Vec F S1 .f32) (x1 : Vec F S2048x256 .bf16) (x2 : Vec F S128x512 .i8) (x3 : Vec F S256x64 .i8) (x4 : Vec F S1x1x64 .f32) : Vec F S2048x512 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4).2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : ¬cond0_1 i)
    (x0 : Vec F S1 .f32) (x1 : Vec F S2048x256 .bf16) (x2 : Vec F S128x512 .i8) (x3 : Vec F S256x64 .i8) (x4 : Vec F S1x1x64 .f32) (xs0 : Vec F S2048x512 .f32) : Vec F S2048x512 .bf16 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 x3 x4 xs0).1)

/-- Case B's pieces for scratch `arg8`, which the kernel carries between points, cover it: 1 piece of `S2048x512` tiling it (Lib/Ring.lean `Piece.tiledL`). -/
theorem scover0_B_0 (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : ¬cond0_1 i)
    (x0 : Vec F S1 .f32) (x1 : Vec F S2048x256 .bf16) (x2 : Vec F S128x512 .i8) (x3 : Vec F S256x64 .i8) (x4 : Vec F S1x1x64 .f32) (xs0 : Vec F S2048x512 .f32) (y : S2048x512.Idx) :
    ∃ pc ∈ (kernelRun0_B c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0).2.1 S2048x512.size (by sl_kernel_rfl) y

/-- What case B leaves in scratch `arg8`: its pieces read back over junk. -/
def sout0_B_0 (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : ¬cond0_1 i)
    (x0 : Vec F S1 .f32) (x1 : Vec F S2048x256 .bf16) (x2 : Vec F S128x512 .i8) (x3 : Vec F S256x64 .i8) (x4 : Vec F S1x1x64 .f32) (xs0 : Vec F S2048x512 .f32) : Vec F S2048x512 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 xs0).2.1)

/-- Case C's pieces for output 5 tile its block (1 store of `S2048x512`, checked by the kernel's evaluation: Lib/Ring.lean `Piece.tiledL`, linear in the pieces, through a loop's `@[irreducible]` trip theorem too), so they cover it. -/
theorem cover0_C_5 (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : cond0_1 i)
    (x0 : Vec F S1 .f32) (x1 : Vec F S2048x256 .bf16) (x2 : Vec F S128x512 .i8) (x3 : Vec F S256x64 .i8) (x4 : Vec F S1x1x64 .f32) (xs0 : Vec F S2048x512 .f32) (y : S2048x512.Idx) :
    ∃ pc ∈ (kernelRun0_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).1 S2048x512.size (by sl_kernel_rfl) y

/-- What case C leaves in output 5's staging buffer: its pieces read back over junk. -/
def out0_C_5 (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : cond0_1 i)
    (x0 : Vec F S1 .f32) (x1 : Vec F S2048x256 .bf16) (x2 : Vec F S128x512 .i8) (x3 : Vec F S256x64 .i8) (x4 : Vec F S1x1x64 .f32) (xs0 : Vec F S2048x512 .f32) : Vec F S2048x512 .bf16 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 x4 xs0).1)

/-- Case C's pieces for scratch `arg8`, which the kernel carries between points, cover it: 1 piece of `S2048x512` tiling it (Lib/Ring.lean `Piece.tiledL`). -/
theorem scover0_C_0 (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : cond0_1 i)
    (x0 : Vec F S1 .f32) (x1 : Vec F S2048x256 .bf16) (x2 : Vec F S128x512 .i8) (x3 : Vec F S256x64 .i8) (x4 : Vec F S1x1x64 .f32) (xs0 : Vec F S2048x512 .f32) (y : S2048x512.Idx) :
    ∃ pc ∈ (kernelRun0_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).2.1 S2048x512.size (by sl_kernel_rfl) y

/-- What case C leaves in scratch `arg8`: its pieces read back over junk. -/
def sout0_C_0 (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : cond0_1 i)
    (x0 : Vec F S1 .f32) (x1 : Vec F S2048x256 .bf16) (x2 : Vec F S128x512 .i8) (x3 : Vec F S256x64 .i8) (x4 : Vec F S1x1x64 .f32) (xs0 : Vec F S2048x512 .f32) : Vec F S2048x512 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2048x512 .bf16 × Vec F S2048x512 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 43 = 0 then
      if h1 : (n + 1) % 43 = 42 then
        False.elim (by have hN : n + 1 < 344 := lt_of_lt_of_eq hn (show cfg0.N = 344 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 43 = 42 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

/-- `outsAt0` at a point of case A: that case's contents. -/
theorem outsAt0_A (c : Dev nD) (t : Fin cfg0.N) (h0 : t.val % 43 = 0) (h1 : ¬t.val % 43 = 42) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 43 = 0) (h1 : ¬t.val % 43 = 42) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 43 = 0) (h1 : t.val % 43 = 42) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 344 := lt_of_lt_of_eq t.isLt (show cfg0.N = 344 from N_0)
  by_cases h0 : t.val % 43 = 0
  · by_cases h1 : t.val % 43 = 42
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%fT1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            iexists _; unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        rw [outsAt0_A m c t h0 h1]
        unfold sout0_A_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexact HS1
        iintro ⟨H0, H1, H2, H3, H4, H5, ⟨%es0, HS0⟩, ⟨%fT1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            iexists _; unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 43 = 42
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      by_cases hz : t.val = 0
      · exfalso; have hN : t.val < 344 := lt_of_lt_of_eq t.isLt (show cfg0.N = 344 from N_0); omega
      · rw [PhiS_castSucc m c t, PhiS_pos m c _ _ hz]
        rw [outsAt0_C m c t h0 h1]
        unfold out0_C_5 sout0_C_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%fT1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _)
            iexists _; unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      by_cases hz : t.val = 0
      · exfalso; have hN : t.val < 344 := lt_of_lt_of_eq t.isLt (show cfg0.N = 344 from N_0); omega
      · rw [PhiS_castSucc m c t, PhiS_pos m c _ _ hz]
        rw [outsAt0_B m c t h0 h1]
        unfold sout0_B_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%fT1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _)
            iexists _; unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 344 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.KernelIdeal.Runs.lean ====
/-
  KernelIdeal: what the runs of the body share.

  The conditions of the body's two branches as arithmetic of the grid point, where the output window is idle, and the
  names of the staging buffers and of the two scratch buffers.
-/
module

public import proofs.«01_k».proof.Proof.Gen.KernelIdeal.Frame
public import proofs.«01_k».proof.Proof.Gen.KernelIdeal.Skeleton

public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 43) — by arithmetic of the point. -/
theorem hcond0_0 : ∀ t : Fin cfg0.N, cond0_0 (grid0.coords t) ↔ t.val % 43 = 0 :=
  (fun t => by
    have ht : t.val < 344 := Nat.lt_of_lt_of_eq t.isLt N_0
    have e0 : (grid0.coords t 0).val = t.val / 43 % 8 := Pipeline.Grid.coords_val t 0 (by decide) rfl
    have e1 : (grid0.coords t 1).val = t.val / 1 % 43 := Pipeline.Grid.coords_val t 1 (by decide) rfl
    simp only [cond0_0, e0, e1]
    word_cmp
   : ∀ t : Fin grid0.N, cond0_0 (grid0.coords t) ↔ t.val % 43 = 0)

/-- The condition of the body's `scf.if` 1 (`k0_h2`), from the grid coordinates (the skeleton's scalar
    chain substituted). -/
abbrev cond0_1 (i : grid0.Coords) : Prop := k0_cond2 i = 1#1
/-- It holds at the points ≡ 42 (mod 43) — by arithmetic of the point. -/
theorem hcond0_1 : ∀ t : Fin cfg0.N, cond0_1 (grid0.coords t) ↔ t.val % 43 = 42 :=
  (fun t => by
    have ht : t.val < 344 := Nat.lt_of_lt_of_eq t.isLt N_0
    have e0 : (grid0.coords t 0).val = t.val / 43 % 8 := Pipeline.Grid.coords_val t 0 (by decide) rfl
    have e1 : (grid0.coords t 1).val = t.val / 1 % 43 := Pipeline.Grid.coords_val t 1 (by decide) rfl
    simp only [cond0_1, k0_cond2, e0, e1]
    word_cmp
   : ∀ t : Fin grid0.N, cond0_1 (grid0.coords t) ↔ t.val % 43 = 42)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 5, through which its contents are stated (`View.read_writes_of_cover`: the
    choice does not matter). -/
abbrev VO0_5 : View sig .tc .vmem S2048x512 .bf16 := (Memref.whole cc0_stg5_0 : Memref sig .tc .vmem S2048x512 .bf16).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x64 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x512 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2048x512 .f32 := Memref.whole cc0_scratch0
abbrev scM0_1 : Memref sig .tc .vmem S256x128 .bf16 := Memref.whole cc0_scratch1
/-- The scratch `arg8` the kernel carries between points, as a view: what it holds is stated through it. -/
abbrev VS0_0 : View sig .tc .vmem S2048x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.KernelIdeal.Tile.lean ====
/-
  One grid point of the kernel, as a function of what it reads.

  A run of the body ends with one long composed term: 32 gathers of the scale row, 64 gathers of the block scales, the
  decoding selects, the matrix product. This file names the stages of that term once, with the row group and the column
  group as parameters (`scaleRows`, `absmax`, `decoded`, `spread`, `step`).

  The body keeps the block scales in the first 64 lanes of a scratch of 128 lanes and loads all 128: lanes 64 to 127 hold
  whatever the scratch held. No gather reads them (`step_congr`), so a point leaves the same whatever they hold
  (`step_rows`). The statements hold for any reading of the floats.
-/
module

public import proofs.«01_k».proof.Proof.KernelIdeal.Runs
public import Idealize.ShloMosaic.Lib.Pipeline.ReadBack
public import Idealize.ShloMosaic.Lib.Pipeline.ValueKit

@[expose] public section

set_option maxRecDepth 16384

noncomputable section

namespace Cert.KernelIdeal.Tile

open Cert.KernelIdeal Cert.KernelIdeal.Gen
open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode

variable {F : FTy → Type} [FloatOps F]

/-! ## The stages -/

/-- A column index as a gather takes it: a negative index counts from the end (none is negative here), and the array
    passes through the three-axis shape the gather's lowering gives its indices. -/
def wrapIdx (v : IVec S8x128 32) : IVec S8x128 32 :=
  shapeCast S8x128 (shapeCast S8x128x1 (select (cmpi .slt v (broadcast S8x128 0#32)) (addi v (broadcast S8x128 128#32)) v)
    shapeCasts_S8x128_S8x128x1) shapeCasts_S8x128x1_S8x128

/-- The 64 scales of the point's row block, on eight rows and twice along the lanes. -/
def scaleTile (s : Vec F S1x1x64 .f32) : FVec F S8x128 .f32 :=
  concatenate S8x128 1
    [⟨S8x64, broadcastTo S8x64 (shapeCast S1x64 (shapeCast S1x64 s shapeCasts_S1x1x64_S1x64) shapeCasts_S1x64_S1x64) broadcasts_S1x64_S8x64⟩,
     ⟨S8x64, broadcastTo S8x64 (shapeCast S1x64 (shapeCast S1x64 s shapeCasts_S1x1x64_S1x64) shapeCasts_S1x64_S1x64) broadcasts_S1x64_S8x64⟩]
    concatenates_S8x64_S8x64_S8x128_d1

/-- Which scale each row of an eight-row group reads: `k` for its first four rows and `k + 1` for the others. -/
def scaleIdx (k : BitVec 32) : IVec S8x64 32 :=
  addi (broadcast S8x64 k) (shrsi (iota .tc S8x64 32 [0] iota_S8x64_d0_w32) (broadcast S8x64 2#32))

/-- The index the scale gather takes: that, twice along the lanes. -/
def scaleCol (k : BitVec 32) : IVec S8x128 32 :=
  wrapIdx (concatenate S8x128 1 [⟨S8x64, scaleIdx k⟩, ⟨S8x64, scaleIdx k⟩] concatenates_S8x64_S8x64_S8x128_d1)

/-- The scales of an eight-row group, one per row, on every column. -/
def scaleRows (s : Vec F S1x1x64 .f32) (k : BitVec 32) : FVec F S8x64 .f32 :=
  extractStridedSlice S8x64 ![0, 0]
    (dynamicGather 1 (scaleTile s) (scaleCol k))
    slices_S8x128_o0_0_S8x64

/-- The block scales of the point's 256 rows: the quantised value times its row's scale, plus the offset. -/
def absmax (off : Elt F .f32) (q : Vec F S256x64 .i8) (s : Vec F S1x1x64 .f32) : FVec F S256x64 .bf16 :=
  truncf .bf16
    (addf
      (mulf (sitofp .f32 q)
        (concatenate S256x64 0 (List.ofFn fun g : Fin 32 => ⟨S8x64, scaleRows s (BitVec.ofNat 32 (2 * g.val))⟩)
          concatenates_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S256x64_d0))
      (broadcast S256x64 off)) bitsLt_bf16_f32

/-- The four-bit codes of the point's weight tile, each on a row of its own, as sixteen-bit words. -/
def codes (p : Vec F S128x512 .i8) : IVec S256x512 16 :=
  bitcast S256x512 16
    (andi (ori (extui 32 p natLt_8_32) (shli (extui 32 p natLt_8_32) (broadcast S128x512 12#32))) (broadcast S128x512 983055#32))
    bitcasts_S128x512_w32_S256x512_w16

/-- Whether the codes have the bit of the mask `b` set. -/
def bitSet (p : Vec F S128x512 .i8) (b : BitVec 16) : IVec S256x512 1 :=
  cmpi .ne (andi (codes (F := F) p) (broadcast S256x512 b)) (broadcast S256x512 0#16)

/-- One value of the code book, on the whole tile. -/
def book (w : BitVec 32) : FVec F S256x512 .bf16 :=
  truncf .bf16 (broadcast S256x512 (Scalar.ofBits (F := F) .f32 w)) bitsLt_bf16_f32

/-- The decoded codes: the binary tree of selects over the sixteen values of the code book. -/
def decoded (p : Vec F S128x512 .i8) : FVec F S256x512 .bf16 :=
  select (bitSet (F := F) p 8#16)
    (select (bitSet (F := F) p 4#16)
      (select (bitSet (F := F) p 2#16)
        (select (bitSet (F := F) p 1#16) (book 0x3F800000#32) (book 0x3F3913B3#32))
        (select (bitSet (F := F) p 1#16) (book 0x3F1007AB#32) (book 0x3EE1A4B8#32)))
      (select (bitSet (F := F) p 2#16)
        (select (bitSet (F := F) p 1#16) (book 0x3EAD033A#32) (book 0x3E7C04DD#32))
        (select (bitSet (F := F) p 1#16) (book 0x3E24CAE3#32) (book 0x3DA2FAFF#32))))
    (select (bitSet (F := F) p 4#16)
      (select (bitSet (F := F) p 2#16)
        (select (bitSet (F := F) p 1#16) (book 0x00000000#32) (book 0xBDBA7871#32))
        (select (bitSet (F := F) p 1#16) (book 0xBE3D353F#32) (book 0xBE91A24D#32)))
      (select (bitSet (F := F) p 2#16)
        (select (bitSet (F := F) p 1#16) (book 0xBECA32A0#32) (book 0xBF066B30#32))
        (select (bitSet (F := F) p 1#16) (book 0xBF3239B1#32) (book 0xBF800000#32))))

/-- The block a lane of the column group `h` lies in: `8 n + h` and the next one, 64 lanes each. -/
def colIdx (n h : BitVec 32) : IVec S8x128 32 :=
  wrapIdx (addi (broadcast S8x128 (Scalar.addi (Scalar.muli n 8#32) h)) (shrsi (iota .tc S8x128 32 [1] iota_S8x128_d1_w32) (broadcast S8x128 6#32)))

/-- Sixteen rows of block scales spread over the 128 columns of a column group. -/
def spread (n : BitVec 32) (aw : FVec F S16x128 .f32) (h : BitVec 32) : FVec F S16x128 .bf16 :=
  truncf .bf16
    (concatenate S16x128 0
      [⟨S8x128, dynamicGather 1 (extractStridedSlice S8x128 ![0, 0] aw slices_S16x128_o0_0_S8x128) (colIdx n h)⟩,
       ⟨S8x128, dynamicGather 1 (extractStridedSlice S8x128 ![8, 0] aw slices_S16x128_o8_0_S8x128) (colIdx n h)⟩]
      concatenates_S8x128_S8x128_S16x128_d0) bitsLt_bf16_f32

/-- Sixteen rows of block scales spread over the tile's 512 columns. -/
def spreadRow (n : BitVec 32) (aw : FVec F S16x128 .f32) : FVec F S16x512 .bf16 :=
  concatenate S16x512 1 (List.ofFn fun h : Fin 4 => ⟨S16x128, spread n aw (BitVec.ofNat 32 (2 * h.val))⟩)
    concatenates_S16x128_S16x128_S16x128_S16x128_S16x512_d1

/-- The block scales of all 256 rows spread over the tile. -/
def spreadAll (n : BitVec 32) (aw : Fin 16 → FVec F S16x128 .f32) : FVec F S256x512 .bf16 :=
  concatenate S256x512 0 (List.ofFn fun g : Fin 16 => ⟨S16x512, spreadRow n (aw g)⟩)
    concatenates_S16x512_S16x512_S16x512_S16x512_S16x512_S16x512_S16x512_S16x512_S16x512_S16x512_S16x512_S16x512_S16x512_S16x512_S16x512_S16x512_S256x512_d0

/-- One point's accumulation: the accumulator plus the activations times the decoded, scaled weights. -/
def step (n : BitVec 32) (p : Vec F S128x512 .i8) (aw : Fin 16 → FVec F S16x128 .f32) (acc : Vec F S2048x512 .f32) (x : Vec F S2048x256 .bf16) :
    FVec F S2048x512 .f32 :=
  shapeCast S2048x512
    (addf acc
      (matmul dot_S2048x256_S256x512_S2048x512_1_0_0_1_n_n none (shapeCast S2048x256 x shapeCasts_S2048x256_S2048x256)
        (mulf (decoded p) (spreadAll n aw)) (constant S2048x512 .f32 0x00000000#32)))
    shapeCasts_S2048x512_S2048x512

/-- The zero block the first point of a run starts from. -/
def zero : FVec F S2048x512 .f32 := k0_pay2

/-- Sixteen loaded rows widened. -/
def widen (L : FVec F S16x128 .bf16) : FVec F S16x128 .f32 := extf .f32 L bitsLt_bf16_f32

/-- The offset the body reads: the one element of its array. -/
def offset (x0 : Vec F S1 .f32) : Elt F .f32 := View.ld x0 (Rect.unit ![0] ![1] inb_S1_S1_0) (Shape.Idx.first (by decide))

/-- The stored block scales as row group `g` reads them, were lanes 64 to 127 a copy of the first 64. -/
def rows (A : FVec F S256x64 .bf16) (g : Fin 16) : FVec F S16x128 .bf16 :=
  fun y => A (ix2 ⟨16 * g.val + (y 0).val, by have : (y 0).val < 16 := (y 0).isLt; omega⟩ ⟨(y 1).val % 64, Nat.mod_lt _ (by decide)⟩)

/-- Rows `16 g …` of the scratch are inside it. -/
theorem inbRows (g : Fin 16) : ∀ a, (![16 * g.val, 0] : Fin 2 → Nat) a + (![16, 128] : Fin 2 → Nat) a ≤ S256x128.size a := by
  revert g; decide

/-- Rows `16 g …` of the scratch. -/
abbrev rowsRect (g : Fin 16) : Rect S256x128 := Rect.unit ![16 * g.val, 0] ![16, 128] (inbRows g)

/-- The one store of a point into the scratch: the block scales, in its first 64 lanes. -/
abbrev stored (A : FVec F S256x64 .bf16) : List (View.Piece (Elt F) S256x128 .bf16) :=
  [⟨Rect.unit ![0, 0] ![256, 64] inb_S256x128_S256x64_0_0, k0_pay45 A⟩]

/-- The sixteen rows group `g` loads from the scratch, whatever it held (`f`) before the block scales `A` were stored. -/
def loaded {v : View sig .tc .vmem S256x128 .bf16} (f : v.ty.Contents (Elt F)) (A : FVec F S256x64 .bf16) (g : Fin 16) : FVec F S16x128 .bf16 :=
  v.readAt (Elt F) (rowsRect g).toLoadRect (v.writes (Elt F) f (stored A))

/-- What runs with any fixed scratch contents runs when the contents are not known. -/
theorem exists_scratch {ι : Type _} {A0 A1 A2 A3 A4 A5 A6 B Q : sProp (MT nD τ sig Unit (Elt F) ℕ (UR sig nD τ) ℕ)} {Φ : ι → sProp (MT nD τ sig Unit (Elt F) ℕ (UR sig nD τ) ℕ)}
    (h : ∀ d, iprop(A0 ∗ A1 ∗ A2 ∗ A3 ∗ A4 ∗ A5 ∗ A6 ∗ Φ d ∗ Q) ⊢ B) : iprop(A0 ∗ A1 ∗ A2 ∗ A3 ∗ A4 ∗ A5 ∗ A6 ∗ (∃ d, Φ d) ∗ Q) ⊢ B := by
  iintro ⟨H0, H1, H2, H3, H4, H5, H6, ⟨%d, H7⟩, H8⟩
  iapply (h d)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- A run's property at the pieces it leaves holds at pieces equal to them. -/
theorem of_run {α β γ : Type _} {P : α → β → γ → Prop} (r : Σ' a, Σ' b, {z // P a b z}) {a : α} {b : β} {z : γ} (ha : r.1 = a) (hb : r.2.1 = b) (hz : r.2.2.1 = z) :
    P a b z := by
  subst ha hb hz
  exact r.2.2.2

/-! ## The lanes no gather reads -/

/-- The wrapped index a block-scale gather takes at a lane: no wrap, and the block the lane lies in. -/
theorem colWord : ∀ (n : Fin 8) (h : Fin 4) (l : Fin 128),
    Scalar.select (IntOp.cmpi CmpIPredicate.slt (IntOp.addi (Scalar.addi (Scalar.muli (BitVec.ofNat 32 n.val) 8#32) (BitVec.ofNat 32 (2 * h.val))) (IntOp.shrsi ArithUnit.vector (BitVec.ofNat 32 l.val) 6#32)) 0#32)
      (IntOp.addi (IntOp.addi (Scalar.addi (Scalar.muli (BitVec.ofNat 32 n.val) 8#32) (BitVec.ofNat 32 (2 * h.val))) (IntOp.shrsi ArithUnit.vector (BitVec.ofNat 32 l.val) 6#32)) 128#32)
      (IntOp.addi (Scalar.addi (Scalar.muli (BitVec.ofNat 32 n.val) 8#32) (BitVec.ofNat 32 (2 * h.val))) (IntOp.shrsi ArithUnit.vector (BitVec.ofNat 32 l.val) 6#32))
      = BitVec.ofNat 32 (8 * n.val + 2 * h.val + l.val / 64) := by
  decide +kernel

/-- The index a block-scale gather takes at a lane, as a word. -/
theorem colIdx_at (n : Fin 8) (h : Fin 4) (r : Fin 8) (l : Fin 128) :
    colIdx (BitVec.ofNat 32 n.val) (BitVec.ofNat 32 (2 * h.val)) (ix2 r l) = BitVec.ofNat 32 (8 * n.val + 2 * h.val + l.val / 64) := by
  pointwise [colIdx, wrapIdx]
  exact colWord n h l

/-- A gather of eight rows of block scales reads lanes below 64 only. -/
theorem gather_congr (n : Fin 8) (h : Fin 4) (a b : FVec F S8x128 .f32) (hab : ∀ (r : Fin 8) (k : Fin 128), k.val < 64 → a (ix2 r k) = b (ix2 r k)) :
    dynamicGather 1 a (colIdx (BitVec.ofNat 32 n.val) (BitVec.ofNat 32 (2 * h.val)))
      = dynamicGather 1 b (colIdx (BitVec.ofNat 32 n.val) (BitVec.ofNat 32 (2 * h.val))) := by
  have hw (l : Fin 128) : (BitVec.ofNat 32 (8 * n.val + 2 * h.val + l.val / 64)).toNat % 128 = 8 * n.val + 2 * h.val + l.val / 64 := by
    rw [BitVec.toNat_ofNat]; omega
  funext y
  obtain ⟨r, l, rfl⟩ : ∃ (r : Fin 8) (l : Fin 128), y = ix2 r l := ⟨y 0, y 1, by idx_vars y⟩
  pointwise [dynamicGather_apply, colIdx_at]
  refine (congrArg a (a₂ := ix2 r ⟨8 * n.val + 2 * h.val + l.val / 64, by omega⟩) ?_).trans
    ((hab r _ (by simp only; omega)).trans (congrArg b (a₁ := ix2 r ⟨8 * n.val + 2 * h.val + l.val / 64, by omega⟩) ?_))
  · funext d
    match d with
    | ⟨0, _⟩ => rfl
    | ⟨1, _⟩ => exact Fin.ext (hw l)
  · funext d
    match d with
    | ⟨0, _⟩ => rfl
    | ⟨1, _⟩ => exact (Fin.ext (hw l)).symm

/-- Spreading sixteen rows over a column group reads lanes below 64 only. -/
theorem spread_congr (n : Fin 8) (h : Fin 4) (a b : FVec F S16x128 .f32) (hab : ∀ (r : Fin 16) (k : Fin 128), k.val < 64 → a (ix2 r k) = b (ix2 r k)) :
    spread (BitVec.ofNat 32 n.val) a (BitVec.ofNat 32 (2 * h.val)) = spread (BitVec.ofNat 32 n.val) b (BitVec.ofNat 32 (2 * h.val)) := by
  unfold spread
  rw [gather_congr n h (extractStridedSlice S8x128 ![0, 0] a slices_S16x128_o0_0_S8x128) (extractStridedSlice S8x128 ![0, 0] b slices_S16x128_o0_0_S8x128)
      (fun r k hk => by pointwise; exact hab _ k hk),
    gather_congr n h (extractStridedSlice S8x128 ![8, 0] a slices_S16x128_o8_0_S8x128) (extractStridedSlice S8x128 ![8, 0] b slices_S16x128_o8_0_S8x128)
      (fun r k hk => by pointwise; exact hab _ k hk)]

/-- A point reads lanes below 64 of the loaded rows only. -/
theorem step_congr (n : Fin 8) (p : Vec F S128x512 .i8) (a b : Fin 16 → FVec F S16x128 .f32)
    (hab : ∀ (g : Fin 16) (r : Fin 16) (k : Fin 128), k.val < 64 → a g (ix2 r k) = b g (ix2 r k)) (acc : Vec F S2048x512 .f32) (x : Vec F S2048x256 .bf16) :
    step (BitVec.ofNat 32 n.val) p a acc x = step (BitVec.ofNat 32 n.val) p b acc x := by
  have e : spreadAll (BitVec.ofNat 32 n.val) a = spreadAll (BitVec.ofNat 32 n.val) b := by
    refine congrArg (fun u : Fin 16 → FVec F S16x512 .bf16 => concatenate S256x512 0 (List.ofFn fun g : Fin 16 => ⟨S16x512, u g⟩)
      concatenates_S16x512_S16x512_S16x512_S16x512_S16x512_S16x512_S16x512_S16x512_S16x512_S16x512_S16x512_S16x512_S16x512_S16x512_S16x512_S16x512_S256x512_d0)
      (funext fun g => ?_)
    exact congrArg (fun u : Fin 4 → FVec F S16x128 .bf16 => concatenate S16x512 1 (List.ofFn fun h : Fin 4 => ⟨S16x128, u h⟩)
      concatenates_S16x128_S16x128_S16x128_S16x128_S16x512_d1) (funext fun h => spread_congr n h _ _ (hab g))
  unfold step
  rw [e]

/-- Below lane 64 a row group loads the block scales just stored, whatever the scratch held. -/
theorem loaded_at {v : View sig .tc .vmem S256x128 .bf16} (f : v.ty.Contents (Elt F)) (A : FVec F S256x64 .bf16) (g : Fin 16) (r : Fin 16) (k : Fin 128) (hk : k.val < 64) :
    loaded f A g (ix2 r k) = rows A g (ix2 r k) := by
  have e : (rowsRect g).toLoadRect.idx (ix2 r k)
      = (Rect.unit (s := S256x128) ![0, 0] S256x64.size inb_S256x128_S256x64_0_0).emb (ix2 ⟨16 * g.val + r.val, by omega⟩ ⟨k.val, hk⟩ : S256x64.Idx) := by
    funext a
    apply Fin.ext
    match a with
    | ⟨0, _⟩ => show 16 * g.val + 1 * r.val = 0 + 1 * (16 * g.val + r.val); omega
    | ⟨1, _⟩ => show 0 + 1 * k.val = 0 + 1 * k.val; rfl
  unfold loaded
  rw [View.readAt_apply, e]
  refine (View.read_writes_cons_emb _ _ _ _ _ _).trans ?_
  pointwise [k0_pay45, rows]
  congr 2
  exact Fin.ext (Nat.mod_eq_of_lt hk).symm

/-- A point leaves the same whatever the scratch held. -/
theorem step_rows (i : grid0.Coords) (p : Vec F S128x512 .i8) {v : View sig .tc .vmem S256x128 .bf16} (f : v.ty.Contents (Elt F)) (A : FVec F S256x64 .bf16)
    (acc : Vec F S2048x512 .f32) (x : Vec F S2048x256 .bf16) :
    step (BitVec.ofNat 32 (i 0).val) p (fun g => widen (loaded f A g)) acc x = step (BitVec.ofNat 32 (i 0).val) p (fun g => widen (rows A g)) acc x :=
  step_congr (i 0) p _ _ (fun g r k hk => by pointwise [widen]; rw [loaded_at f A g r k hk]) acc x

end Cert.KernelIdeal.Tile

end
-- ==== Proof.KernelIdeal.RunA.lean ====
/-
  KernelIdeal: the run of the body at the first point of a run of 43.

  The scratch that holds the block scales is read in all its 128 lanes and stored in 64, so the run is found first with
  that scratch's contents fixed (`runAt_A`). What it leaves does not depend on them (`Tile.step_rows`), so the run holds at
  any contents (`kernelRun0_A`, in Body.lean).
-/
module

public import proofs.«01_k».proof.Proof.KernelIdeal.Tile

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at the first point of a run of 43, with the block scales' scratch holding `d9` before it: the
    pieces it leaves in the output block, in the accumulator and in the scratch, with the proof that it does. -/
noncomputable def runAt_A (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : cond0_0 i) (hc1 : ¬cond0_1 i)
    (x0 : Vec F S1 .f32) (x1 : Vec F S2048x256 .bf16) (x2 : Vec F S128x512 .i8) (x3 : Vec F S256x64 .i8) (x4 : Vec F S1x1x64 .f32) (d9 : Vec F S256x128 .bf16) :
    Σ' (L5 : List (View.Piece (Elt F) S2048x512 .bf16)), Σ' (LS0 : List (View.Piece (Elt F) S2048x512 .f32)), { LT1 : List (View.Piece (Elt F) S256x128 .bf16) //
      ∀ (xi5 : Vec F S2048x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
  refine ⟨[], ?_, ?_, fun xi5 E K => ?run⟩
  case run =>
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 4000000 in
/-- In the accumulator the run leaves one point's `Tile.step`, over the zero block, whatever the scratch held. -/
theorem acc_A (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : cond0_0 i) (hc1 : ¬cond0_1 i)
    (x0 : Vec F S1 .f32) (x1 : Vec F S2048x256 .bf16) (x2 : Vec F S128x512 .i8) (x3 : Vec F S256x64 .i8) (x4 : Vec F S1x1x64 .f32) (d9 : Vec F S256x128 .bf16) :
    (runAt_A c i arg2 harg2 arg3 harg3 arg4 harg4 arg5 harg5 arg6 harg6 arg7 harg7 arg8 harg8 arg9 harg9 hc0 hc1 x0 x1 x2 x3 x4 d9).2.1 = [⟨Rect.unit ![0, 0] ![2048, 512] inb_S2048x512_S2048x512_0_0, Tile.step (BitVec.ofNat 32 (i 0).val) x2 (fun g => Tile.widen (Tile.rows (Tile.absmax (Tile.offset x0) x3 x4) g)) Tile.zero x1⟩, ⟨Rect.unit ![0, 0] ![2048, 512] inb_S2048x512_S2048x512_0_0, k0_pay2⟩] := by
  have h : (runAt_A c i arg2 harg2 arg3 harg3 arg4 harg4 arg5 harg5 arg6 harg6 arg7 harg7 arg8 harg8 arg9 harg9 hc0 hc1 x0 x1 x2 x3 x4 d9).2.1 = [⟨Rect.unit ![0, 0] ![2048, 512] inb_S2048x512_S2048x512_0_0, Tile.step (BitVec.ofNat 32 (i 0).val)
        (arg4.view.readAt (Elt F) (Rect.unit ![0, 0] S128x512.size inb_S128x512_S128x512_0_0).toLoadRect (harg4.unread x2))
        (fun g => Tile.widen (Tile.loaded (v := arg9.view) (harg9.unread d9)
          (Tile.absmax (arg2.view.readAt (Elt F) (Rect.unit ![0] S1.size inb_S1_S1_0).toLoadRect (harg2.unread x0) (Shape.Idx.first (by decide)))
            (arg5.view.readAt (Elt F) (Rect.unit ![0, 0] S256x64.size inb_S256x64_S256x64_0_0).toLoadRect (harg5.unread x3))
            (arg6.view.readAt (Elt F) (Rect.unit ![0, 0, 0] S1x1x64.size inb_S1x1x64_S1x1x64_0_0_0).toLoadRect (harg6.unread x4))) g))
        (arg8.view.readCov (Val := Elt F) [⟨Rect.unit ![0, 0] ![2048, 512] inb_S2048x512_S2048x512_0_0, k0_pay2⟩] (Rect.unit ![0, 0] S2048x512.size inb_S2048x512_S2048x512_0_0).toLoadRect)
        (arg3.view.readAt (Elt F) (Rect.unit ![0, 0] S2048x256.size inb_S2048x256_S2048x256_0_0).toLoadRect (harg3.unread x1))⟩, ⟨Rect.unit ![0, 0] ![2048, 512] inb_S2048x512_S2048x512_0_0, k0_pay2⟩] := rfl
  rw [h]
  simp (disch := decide) only [View.readAt_eq_ld, Memref.IsWhole.read_unread, View.ld_unit_lit', View.readCov_unit_lit', Tile.step_rows]
  rfl

set_option maxHeartbeats 4000000 in
/-- In the scratch it leaves the block scales. -/
theorem scratch_A (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : cond0_0 i) (hc1 : ¬cond0_1 i)
    (x0 : Vec F S1 .f32) (x1 : Vec F S2048x256 .bf16) (x2 : Vec F S128x512 .i8) (x3 : Vec F S256x64 .i8) (x4 : Vec F S1x1x64 .f32) (d9 : Vec F S256x128 .bf16) :
    (runAt_A c i arg2 harg2 arg3 harg3 arg4 harg4 arg5 harg5 arg6 harg6 arg7 harg7 arg8 harg8 arg9 harg9 hc0 hc1 x0 x1 x2 x3 x4 d9).2.2.1 = Tile.stored (Tile.absmax (Tile.offset x0) x3 x4) := by
  have h : (runAt_A c i arg2 harg2 arg3 harg3 arg4 harg4 arg5 harg5 arg6 harg6 arg7 harg7 arg8 harg8 arg9 harg9 hc0 hc1 x0 x1 x2 x3 x4 d9).2.2.1 = Tile.stored
          (Tile.absmax (arg2.view.readAt (Elt F) (Rect.unit ![0] S1.size inb_S1_S1_0).toLoadRect (harg2.unread x0) (Shape.Idx.first (by decide)))
            (arg5.view.readAt (Elt F) (Rect.unit ![0, 0] S256x64.size inb_S256x64_S256x64_0_0).toLoadRect (harg5.unread x3))
            (arg6.view.readAt (Elt F) (Rect.unit ![0, 0, 0] S1x1x64.size inb_S1x1x64_S1x1x64_0_0_0).toLoadRect (harg6.unread x4))) := rfl
  rw [h]
  simp (disch := decide) only [View.readAt_eq_ld, Memref.IsWhole.read_unread, View.ld_unit_lit']
  rfl

end Cert.KernelIdeal.Gen

end
-- ==== Proof.KernelIdeal.RunB.lean ====
/-
  KernelIdeal: the run of the body at a point inside a run of 43.

  The scratch that holds the block scales is read in all its 128 lanes and stored in 64, so the run is found first with
  that scratch's contents fixed (`runAt_B`). What it leaves does not depend on them (`Tile.step_rows`), so the run holds at
  any contents (`kernelRun0_B`, in Body.lean).
-/
module

public import proofs.«01_k».proof.Proof.KernelIdeal.Tile

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at a point inside a run of 43, with the block scales' scratch holding `d9` before it: the
    pieces it leaves in the output block, in the accumulator and in the scratch, with the proof that it does. -/
noncomputable def runAt_B (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : ¬cond0_1 i)
    (x0 : Vec F S1 .f32) (x1 : Vec F S2048x256 .bf16) (x2 : Vec F S128x512 .i8) (x3 : Vec F S256x64 .i8) (x4 : Vec F S1x1x64 .f32) (xs0 : Vec F S2048x512 .f32) (d9 : Vec F S256x128 .bf16) :
    Σ' (L5 : List (View.Piece (Elt F) S2048x512 .bf16)), Σ' (LS0 : List (View.Piece (Elt F) S2048x512 .f32)), { LT1 : List (View.Piece (Elt F) S256x128 .bf16) //
      ∀ (xi5 : Vec F S2048x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
  refine ⟨[], ?_, ?_, fun xi5 E K => ?run⟩
  case run =>
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

set_option maxHeartbeats 4000000 in
/-- In the accumulator the run leaves one point's `Tile.step`, whatever the scratch held. -/
theorem acc_B (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : ¬cond0_1 i)
    (x0 : Vec F S1 .f32) (x1 : Vec F S2048x256 .bf16) (x2 : Vec F S128x512 .i8) (x3 : Vec F S256x64 .i8) (x4 : Vec F S1x1x64 .f32) (xs0 : Vec F S2048x512 .f32) (d9 : Vec F S256x128 .bf16) :
    (runAt_B c i arg2 harg2 arg3 harg3 arg4 harg4 arg5 harg5 arg6 harg6 arg7 harg7 arg8 harg8 arg9 harg9 hc0 hc1 x0 x1 x2 x3 x4 xs0 d9).2.1 = [⟨Rect.unit ![0, 0] ![2048, 512] inb_S2048x512_S2048x512_0_0, Tile.step (BitVec.ofNat 32 (i 0).val) x2 (fun g => Tile.widen (Tile.rows (Tile.absmax (Tile.offset x0) x3 x4) g)) xs0 x1⟩] := by
  have h : (runAt_B c i arg2 harg2 arg3 harg3 arg4 harg4 arg5 harg5 arg6 harg6 arg7 harg7 arg8 harg8 arg9 harg9 hc0 hc1 x0 x1 x2 x3 x4 xs0 d9).2.1 = [⟨Rect.unit ![0, 0] ![2048, 512] inb_S2048x512_S2048x512_0_0, Tile.step (BitVec.ofNat 32 (i 0).val)
        (arg4.view.readAt (Elt F) (Rect.unit ![0, 0] S128x512.size inb_S128x512_S128x512_0_0).toLoadRect (harg4.unread x2))
        (fun g => Tile.widen (Tile.loaded (v := arg9.view) (harg9.unread d9)
          (Tile.absmax (arg2.view.readAt (Elt F) (Rect.unit ![0] S1.size inb_S1_S1_0).toLoadRect (harg2.unread x0) (Shape.Idx.first (by decide)))
            (arg5.view.readAt (Elt F) (Rect.unit ![0, 0] S256x64.size inb_S256x64_S256x64_0_0).toLoadRect (harg5.unread x3))
            (arg6.view.readAt (Elt F) (Rect.unit ![0, 0, 0] S1x1x64.size inb_S1x1x64_S1x1x64_0_0_0).toLoadRect (harg6.unread x4))) g))
        (arg8.view.readAt (Elt F) (Rect.unit ![0, 0] S2048x512.size inb_S2048x512_S2048x512_0_0).toLoadRect (harg8.unread xs0))
        (arg3.view.readAt (Elt F) (Rect.unit ![0, 0] S2048x256.size inb_S2048x256_S2048x256_0_0).toLoadRect (harg3.unread x1))⟩] := rfl
  rw [h]
  simp (disch := decide) only [View.readAt_eq_ld, Memref.IsWhole.read_unread, View.ld_unit_lit', View.readCov_unit_lit', Tile.step_rows]
  rfl

set_option maxHeartbeats 4000000 in
/-- In the scratch it leaves the block scales. -/
theorem scratch_B (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : ¬cond0_1 i)
    (x0 : Vec F S1 .f32) (x1 : Vec F S2048x256 .bf16) (x2 : Vec F S128x512 .i8) (x3 : Vec F S256x64 .i8) (x4 : Vec F S1x1x64 .f32) (xs0 : Vec F S2048x512 .f32) (d9 : Vec F S256x128 .bf16) :
    (runAt_B c i arg2 harg2 arg3 harg3 arg4 harg4 arg5 harg5 arg6 harg6 arg7 harg7 arg8 harg8 arg9 harg9 hc0 hc1 x0 x1 x2 x3 x4 xs0 d9).2.2.1 = Tile.stored (Tile.absmax (Tile.offset x0) x3 x4) := by
  have h : (runAt_B c i arg2 harg2 arg3 harg3 arg4 harg4 arg5 harg5 arg6 harg6 arg7 harg7 arg8 harg8 arg9 harg9 hc0 hc1 x0 x1 x2 x3 x4 xs0 d9).2.2.1 = Tile.stored
          (Tile.absmax (arg2.view.readAt (Elt F) (Rect.unit ![0] S1.size inb_S1_S1_0).toLoadRect (harg2.unread x0) (Shape.Idx.first (by decide)))
            (arg5.view.readAt (Elt F) (Rect.unit ![0, 0] S256x64.size inb_S256x64_S256x64_0_0).toLoadRect (harg5.unread x3))
            (arg6.view.readAt (Elt F) (Rect.unit ![0, 0, 0] S1x1x64.size inb_S1x1x64_S1x1x64_0_0_0).toLoadRect (harg6.unread x4))) := rfl
  rw [h]
  simp (disch := decide) only [View.readAt_eq_ld, Memref.IsWhole.read_unread, View.ld_unit_lit']
  rfl

end Cert.KernelIdeal.Gen

end
-- ==== Proof.KernelIdeal.RunC.lean ====
/-
  KernelIdeal: the run of the body at the last point of a run of 43.

  The scratch that holds the block scales is read in all its 128 lanes and stored in 64, so the run is found first with
  that scratch's contents fixed (`runAt_C`). What it leaves does not depend on them (`Tile.step_rows`), so the run holds at
  any contents (`kernelRun0_C`, in Body.lean).
-/
module

public import proofs.«01_k».proof.Proof.KernelIdeal.Tile

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at the last point of a run of 43, with the block scales' scratch holding `d9` before it: the
    pieces it leaves in the output block, in the accumulator and in the scratch, with the proof that it does. -/
noncomputable def runAt_C (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : cond0_1 i)
    (x0 : Vec F S1 .f32) (x1 : Vec F S2048x256 .bf16) (x2 : Vec F S128x512 .i8) (x3 : Vec F S256x64 .i8) (x4 : Vec F S1x1x64 .f32) (xs0 : Vec F S2048x512 .f32) (d9 : Vec F S256x128 .bf16) :
    Σ' (L5 : List (View.Piece (Elt F) S2048x512 .bf16)), Σ' (LS0 : List (View.Piece (Elt F) S2048x512 .f32)), { LT1 : List (View.Piece (Elt F) S256x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0__body i arg2 harg2 arg3 harg3 arg4 harg4 arg5 harg5 arg6 harg6 arg7 harg7 arg8 harg8 arg9 harg9) K } := by
  refine ⟨?_, ?_, ?_, fun E K => ?run⟩
  case run =>
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

set_option maxHeartbeats 4000000 in
/-- In the accumulator the run leaves one point's `Tile.step`, whatever the scratch held. -/
theorem acc_C (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : cond0_1 i)
    (x0 : Vec F S1 .f32) (x1 : Vec F S2048x256 .bf16) (x2 : Vec F S128x512 .i8) (x3 : Vec F S256x64 .i8) (x4 : Vec F S1x1x64 .f32) (xs0 : Vec F S2048x512 .f32) (d9 : Vec F S256x128 .bf16) :
    (runAt_C c i arg2 harg2 arg3 harg3 arg4 harg4 arg5 harg5 arg6 harg6 arg7 harg7 arg8 harg8 arg9 harg9 hc0 hc1 x0 x1 x2 x3 x4 xs0 d9).2.1 = [⟨Rect.unit ![0, 0] ![2048, 512] inb_S2048x512_S2048x512_0_0, Tile.step (BitVec.ofNat 32 (i 0).val) x2 (fun g => Tile.widen (Tile.rows (Tile.absmax (Tile.offset x0) x3 x4) g)) xs0 x1⟩] := by
  have h : (runAt_C c i arg2 harg2 arg3 harg3 arg4 harg4 arg5 harg5 arg6 harg6 arg7 harg7 arg8 harg8 arg9 harg9 hc0 hc1 x0 x1 x2 x3 x4 xs0 d9).2.1 = [⟨Rect.unit ![0, 0] ![2048, 512] inb_S2048x512_S2048x512_0_0, Tile.step (BitVec.ofNat 32 (i 0).val)
        (arg4.view.readAt (Elt F) (Rect.unit ![0, 0] S128x512.size inb_S128x512_S128x512_0_0).toLoadRect (harg4.unread x2))
        (fun g => Tile.widen (Tile.loaded (v := arg9.view) (harg9.unread d9)
          (Tile.absmax (arg2.view.readAt (Elt F) (Rect.unit ![0] S1.size inb_S1_S1_0).toLoadRect (harg2.unread x0) (Shape.Idx.first (by decide)))
            (arg5.view.readAt (Elt F) (Rect.unit ![0, 0] S256x64.size inb_S256x64_S256x64_0_0).toLoadRect (harg5.unread x3))
            (arg6.view.readAt (Elt F) (Rect.unit ![0, 0, 0] S1x1x64.size inb_S1x1x64_S1x1x64_0_0_0).toLoadRect (harg6.unread x4))) g))
        (arg8.view.readAt (Elt F) (Rect.unit ![0, 0] S2048x512.size inb_S2048x512_S2048x512_0_0).toLoadRect (harg8.unread xs0))
        (arg3.view.readAt (Elt F) (Rect.unit ![0, 0] S2048x256.size inb_S2048x256_S2048x256_0_0).toLoadRect (harg3.unread x1))⟩] := rfl
  rw [h]
  simp (disch := decide) only [View.readAt_eq_ld, Memref.IsWhole.read_unread, View.ld_unit_lit', View.readCov_unit_lit', Tile.step_rows]
  rfl

set_option maxHeartbeats 4000000 in
/-- In the scratch it leaves the block scales. -/
theorem scratch_C (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : cond0_1 i)
    (x0 : Vec F S1 .f32) (x1 : Vec F S2048x256 .bf16) (x2 : Vec F S128x512 .i8) (x3 : Vec F S256x64 .i8) (x4 : Vec F S1x1x64 .f32) (xs0 : Vec F S2048x512 .f32) (d9 : Vec F S256x128 .bf16) :
    (runAt_C c i arg2 harg2 arg3 harg3 arg4 harg4 arg5 harg5 arg6 harg6 arg7 harg7 arg8 harg8 arg9 harg9 hc0 hc1 x0 x1 x2 x3 x4 xs0 d9).2.2.1 = Tile.stored (Tile.absmax (Tile.offset x0) x3 x4) := by
  have h : (runAt_C c i arg2 harg2 arg3 harg3 arg4 harg4 arg5 harg5 arg6 harg6 arg7 harg7 arg8 harg8 arg9 harg9 hc0 hc1 x0 x1 x2 x3 x4 xs0 d9).2.2.1 = Tile.stored
          (Tile.absmax (arg2.view.readAt (Elt F) (Rect.unit ![0] S1.size inb_S1_S1_0).toLoadRect (harg2.unread x0) (Shape.Idx.first (by decide)))
            (arg5.view.readAt (Elt F) (Rect.unit ![0, 0] S256x64.size inb_S256x64_S256x64_0_0).toLoadRect (harg5.unread x3))
            (arg6.view.readAt (Elt F) (Rect.unit ![0, 0, 0] S1x1x64.size inb_S1x1x64_S1x1x64_0_0_0).toLoadRect (harg6.unread x4))) := rfl
  rw [h]
  simp (disch := decide) only [View.readAt_eq_ld, Memref.IsWhole.read_unread, View.ld_unit_lit']
  rfl

set_option maxHeartbeats 4000000 in
/-- In the output block it leaves the accumulator, rounded. -/
theorem out_C (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : cond0_1 i)
    (x0 : Vec F S1 .f32) (x1 : Vec F S2048x256 .bf16) (x2 : Vec F S128x512 .i8) (x3 : Vec F S256x64 .i8) (x4 : Vec F S1x1x64 .f32) (xs0 : Vec F S2048x512 .f32) (d9 : Vec F S256x128 .bf16) :
    (runAt_C c i arg2 harg2 arg3 harg3 arg4 harg4 arg5 harg5 arg6 harg6 arg7 harg7 arg8 harg8 arg9 harg9 hc0 hc1 x0 x1 x2 x3 x4 xs0 d9).1 = [⟨Rect.unit ![0, 0] ![2048, 512] inb_S2048x512_S2048x512_0_0, k0_pay4 (Tile.step (BitVec.ofNat 32 (i 0).val) x2 (fun g => Tile.widen (Tile.rows (Tile.absmax (Tile.offset x0) x3 x4) g)) xs0 x1)⟩] := by
  have e := acc_C c i arg2 harg2 arg3 harg3 arg4 harg4 arg5 harg5 arg6 harg6 arg7 harg7 arg8 harg8 arg9 harg9 hc0 hc1 x0 x1 x2 x3 x4 xs0 d9
  dsimp only [runAt_C] at e ⊢
  unfold runAt_C.sl.v2265
  rw [e]
  exact congrArg (fun u => [(⟨Rect.unit ![0, 0] ![2048, 512] inb_S2048x512_S2048x512_0_0, k0_pay4 u⟩ : View.Piece (Elt F) S2048x512 .bf16)]) (View.readCov_unit_lit' _ _ _ (by decide))

end Cert.KernelIdeal.Gen

end
-- ==== Proof.KernelIdeal.Body.lean ====
/-
  KernelIdeal: the three runs of the body, at any contents of the scratch that holds the block scales.
-/
module

public import proofs.«01_k».proof.Proof.KernelIdeal.RunA
public import proofs.«01_k».proof.Proof.KernelIdeal.RunB
public import proofs.«01_k».proof.Proof.KernelIdeal.RunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run at the first point of a run of 43, with the scratch holding `d9`, and what it leaves. -/
theorem body_A (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : cond0_0 i) (hc1 : ¬cond0_1 i)
    (x0 : Vec F S1 .f32) (x1 : Vec F S2048x256 .bf16) (x2 : Vec F S128x512 .i8) (x3 : Vec F S256x64 .i8) (x4 : Vec F S1x1x64 .f32) (d9 : Vec F S256x128 .bf16)
    (xi5 : Vec F S2048x512 .bf16) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f [⟨Rect.unit ![0, 0] ![2048, 512] inb_S2048x512_S2048x512_0_0, Tile.step (BitVec.ofNat 32 (i 0).val) x2 (fun g => Tile.widen (Tile.rows (Tile.absmax (Tile.offset x0) x3 x4) g)) Tile.zero x1⟩, ⟨Rect.unit ![0, 0] ![2048, 512] inb_S2048x512_S2048x512_0_0, k0_pay2⟩]) ∗ (∃ f, arg9.view.loc (c : Thread nD τ) ↦[arg9.view.set]{fullShare} arg9.view.writes (Elt F) f (Tile.stored (Tile.absmax (Tile.offset x0) x3 x4)))) -∗ K ⟨⟩))
          ⊢ wp frame (wpE (defs₀ (F := F)) Variants.none c none) E (cc0__body i arg2 harg2 arg3 harg3 arg4 harg4 arg5 harg5 arg6 harg6 arg7 harg7 arg8 harg8 arg9 harg9) K :=
  Tile.of_run (runAt_A c i arg2 harg2 arg3 harg3 arg4 harg4 arg5 harg5 arg6 harg6 arg7 harg7 arg8 harg8 arg9 harg9 hc0 hc1 x0 x1 x2 x3 x4 d9) rfl (acc_A c i arg2 harg2 arg3 harg3 arg4 harg4 arg5 harg5 arg6 harg6 arg7 harg7 arg8 harg8 arg9 harg9 hc0 hc1 x0 x1 x2 x3 x4 d9) (scratch_A c i arg2 harg2 arg3 harg3 arg4 harg4 arg5 harg5 arg6 harg6 arg7 harg7 arg8 harg8 arg9 harg9 hc0 hc1 x0 x1 x2 x3 x4 d9) xi5 E K

/-- The body's run at the first point of a run of 43, whatever the scratches not carried into it hold. -/
noncomputable def kernelRun0_A (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : cond0_0 i) (hc1 : ¬cond0_1 i)
    (x0 : Vec F S1 .f32) (x1 : Vec F S2048x256 .bf16) (x2 : Vec F S128x512 .i8) (x3 : Vec F S256x64 .i8) (x4 : Vec F S1x1x64 .f32) :
    Σ' (L5 : List (View.Piece (Elt F) S2048x512 .bf16)), Σ' (LS0 : List (View.Piece (Elt F) S2048x512 .f32)), { LT1 : List (View.Piece (Elt F) S256x128 .bf16) //
      ∀ (xi5 : Vec F S2048x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0__body i arg2 harg2 arg3 harg3 arg4 harg4 arg5 harg5 arg6 harg6 arg7 harg7 arg8 harg8 arg9 harg9) K } :=
  ⟨[], [⟨Rect.unit ![0, 0] ![2048, 512] inb_S2048x512_S2048x512_0_0, Tile.step (BitVec.ofNat 32 (i 0).val) x2 (fun g => Tile.widen (Tile.rows (Tile.absmax (Tile.offset x0) x3 x4) g)) Tile.zero x1⟩, ⟨Rect.unit ![0, 0] ![2048, 512] inb_S2048x512_S2048x512_0_0, k0_pay2⟩], Tile.stored (Tile.absmax (Tile.offset x0) x3 x4), fun xi5 E K => Tile.exists_scratch fun d9 => body_A c i arg2 harg2 arg3 harg3 arg4 harg4 arg5 harg5 arg6 harg6 arg7 harg7 arg8 harg8 arg9 harg9 hc0 hc1 x0 x1 x2 x3 x4 d9 xi5 E K⟩

set_option maxHeartbeats 1000000 in
/-- The body's run at a point inside a run of 43, with the scratch holding `d9`, and what it leaves. -/
theorem body_B (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : ¬cond0_1 i)
    (x0 : Vec F S1 .f32) (x1 : Vec F S2048x256 .bf16) (x2 : Vec F S128x512 .i8) (x3 : Vec F S256x64 .i8) (x4 : Vec F S1x1x64 .f32) (xs0 : Vec F S2048x512 .f32) (d9 : Vec F S256x128 .bf16)
    (xi5 : Vec F S2048x512 .bf16) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f [⟨Rect.unit ![0, 0] ![2048, 512] inb_S2048x512_S2048x512_0_0, Tile.step (BitVec.ofNat 32 (i 0).val) x2 (fun g => Tile.widen (Tile.rows (Tile.absmax (Tile.offset x0) x3 x4) g)) xs0 x1⟩]) ∗ (∃ f, arg9.view.loc (c : Thread nD τ) ↦[arg9.view.set]{fullShare} arg9.view.writes (Elt F) f (Tile.stored (Tile.absmax (Tile.offset x0) x3 x4)))) -∗ K ⟨⟩))
          ⊢ wp frame (wpE (defs₀ (F := F)) Variants.none c none) E (cc0__body i arg2 harg2 arg3 harg3 arg4 harg4 arg5 harg5 arg6 harg6 arg7 harg7 arg8 harg8 arg9 harg9) K :=
  Tile.of_run (runAt_B c i arg2 harg2 arg3 harg3 arg4 harg4 arg5 harg5 arg6 harg6 arg7 harg7 arg8 harg8 arg9 harg9 hc0 hc1 x0 x1 x2 x3 x4 xs0 d9) rfl (acc_B c i arg2 harg2 arg3 harg3 arg4 harg4 arg5 harg5 arg6 harg6 arg7 harg7 arg8 harg8 arg9 harg9 hc0 hc1 x0 x1 x2 x3 x4 xs0 d9) (scratch_B c i arg2 harg2 arg3 harg3 arg4 harg4 arg5 harg5 arg6 harg6 arg7 harg7 arg8 harg8 arg9 harg9 hc0 hc1 x0 x1 x2 x3 x4 xs0 d9) xi5 E K

/-- The body's run at a point inside a run of 43, whatever the scratches not carried into it hold. -/
noncomputable def kernelRun0_B (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : ¬cond0_1 i)
    (x0 : Vec F S1 .f32) (x1 : Vec F S2048x256 .bf16) (x2 : Vec F S128x512 .i8) (x3 : Vec F S256x64 .i8) (x4 : Vec F S1x1x64 .f32) (xs0 : Vec F S2048x512 .f32) :
    Σ' (L5 : List (View.Piece (Elt F) S2048x512 .bf16)), Σ' (LS0 : List (View.Piece (Elt F) S2048x512 .f32)), { LT1 : List (View.Piece (Elt F) S256x128 .bf16) //
      ∀ (xi5 : Vec F S2048x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0__body i arg2 harg2 arg3 harg3 arg4 harg4 arg5 harg5 arg6 harg6 arg7 harg7 arg8 harg8 arg9 harg9) K } :=
  ⟨[], [⟨Rect.unit ![0, 0] ![2048, 512] inb_S2048x512_S2048x512_0_0, Tile.step (BitVec.ofNat 32 (i 0).val) x2 (fun g => Tile.widen (Tile.rows (Tile.absmax (Tile.offset x0) x3 x4) g)) xs0 x1⟩], Tile.stored (Tile.absmax (Tile.offset x0) x3 x4), fun xi5 E K => Tile.exists_scratch fun d9 => body_B c i arg2 harg2 arg3 harg3 arg4 harg4 arg5 harg5 arg6 harg6 arg7 harg7 arg8 harg8 arg9 harg9 hc0 hc1 x0 x1 x2 x3 x4 xs0 d9 xi5 E K⟩

set_option maxHeartbeats 1000000 in
/-- The body's run at the last point of a run of 43, with the scratch holding `d9`, and what it leaves. -/
theorem body_C (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : cond0_1 i)
    (x0 : Vec F S1 .f32) (x1 : Vec F S2048x256 .bf16) (x2 : Vec F S128x512 .i8) (x3 : Vec F S256x64 .i8) (x4 : Vec F S1x1x64 .f32) (xs0 : Vec F S2048x512 .f32) (d9 : Vec F S256x128 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare d9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f [⟨Rect.unit ![0, 0] ![2048, 512] inb_S2048x512_S2048x512_0_0, k0_pay4 (Tile.step (BitVec.ofNat 32 (i 0).val) x2 (fun g => Tile.widen (Tile.rows (Tile.absmax (Tile.offset x0) x3 x4) g)) xs0 x1)⟩]) ∗ (∃ f, arg8.view.loc (c : Thread nD τ) ↦[arg8.view.set]{fullShare} arg8.view.writes (Elt F) f [⟨Rect.unit ![0, 0] ![2048, 512] inb_S2048x512_S2048x512_0_0, Tile.step (BitVec.ofNat 32 (i 0).val) x2 (fun g => Tile.widen (Tile.rows (Tile.absmax (Tile.offset x0) x3 x4) g)) xs0 x1⟩]) ∗ (∃ f, arg9.view.loc (c : Thread nD τ) ↦[arg9.view.set]{fullShare} arg9.view.writes (Elt F) f (Tile.stored (Tile.absmax (Tile.offset x0) x3 x4)))) -∗ K ⟨⟩))
          ⊢ wp frame (wpE (defs₀ (F := F)) Variants.none c none) E (cc0__body i arg2 harg2 arg3 harg3 arg4 harg4 arg5 harg5 arg6 harg6 arg7 harg7 arg8 harg8 arg9 harg9) K :=
  Tile.of_run (runAt_C c i arg2 harg2 arg3 harg3 arg4 harg4 arg5 harg5 arg6 harg6 arg7 harg7 arg8 harg8 arg9 harg9 hc0 hc1 x0 x1 x2 x3 x4 xs0 d9) (out_C c i arg2 harg2 arg3 harg3 arg4 harg4 arg5 harg5 arg6 harg6 arg7 harg7 arg8 harg8 arg9 harg9 hc0 hc1 x0 x1 x2 x3 x4 xs0 d9) (acc_C c i arg2 harg2 arg3 harg3 arg4 harg4 arg5 harg5 arg6 harg6 arg7 harg7 arg8 harg8 arg9 harg9 hc0 hc1 x0 x1 x2 x3 x4 xs0 d9) (scratch_C c i arg2 harg2 arg3 harg3 arg4 harg4 arg5 harg5 arg6 harg6 arg7 harg7 arg8 harg8 arg9 harg9 hc0 hc1 x0 x1 x2 x3 x4 xs0 d9) E K

/-- The body's run at the last point of a run of 43, whatever the scratches not carried into it hold. -/
noncomputable def kernelRun0_C (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : cond0_1 i)
    (x0 : Vec F S1 .f32) (x1 : Vec F S2048x256 .bf16) (x2 : Vec F S128x512 .i8) (x3 : Vec F S256x64 .i8) (x4 : Vec F S1x1x64 .f32) (xs0 : Vec F S2048x512 .f32) :
    Σ' (L5 : List (View.Piece (Elt F) S2048x512 .bf16)), Σ' (LS0 : List (View.Piece (Elt F) S2048x512 .f32)), { LT1 : List (View.Piece (Elt F) S256x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0__body i arg2 harg2 arg3 harg3 arg4 harg4 arg5 harg5 arg6 harg6 arg7 harg7 arg8 harg8 arg9 harg9) K } :=
  ⟨[⟨Rect.unit ![0, 0] ![2048, 512] inb_S2048x512_S2048x512_0_0, k0_pay4 (Tile.step (BitVec.ofNat 32 (i 0).val) x2 (fun g => Tile.widen (Tile.rows (Tile.absmax (Tile.offset x0) x3 x4) g)) xs0 x1)⟩], [⟨Rect.unit ![0, 0] ![2048, 512] inb_S2048x512_S2048x512_0_0, Tile.step (BitVec.ofNat 32 (i 0).val) x2 (fun g => Tile.widen (Tile.rows (Tile.absmax (Tile.offset x0) x3 x4) g)) xs0 x1⟩], Tile.stored (Tile.absmax (Tile.offset x0) x3 x4), fun E K => Tile.exists_scratch fun d9 => body_C c i arg2 harg2 arg3 harg3 arg4 harg4 arg5 harg5 arg6 harg6 arg7 harg7 arg8 harg8 arg9 harg9 hc0 hc1 x0 x1 x2 x3 x4 xs0 d9 E K⟩

end Cert.KernelIdeal.Gen

end
-- ==== Proof.KernelIdeal.Frame.lean ====
/-
  KernelIdeal: the run of the whole kernel and its frame.

  What the output block and the accumulator hold after each point (`outsAt0`, by the three cases of the body), the data and
  the obligation of the pipeline at every point, the run (`run_main`) and the claim that the arguments end unchanged and
  every semaphore at zero (`frame`). The accumulator is carried from point to point; the scratch that holds the block
  scales is not: its contents are unknown before each point and forgotten after it.
-/
module

public import proofs.«01_k».proof.Proof.KernelIdeal.Body
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : cond0_0 i) (hc1 : ¬cond0_1 i)
    (x0 : Vec F S1 .f32) (x1 : Vec F S2048x256 .bf16) (x2 : Vec F S128x512 .i8) (x3 : Vec F S256x64 .i8) (x4 : Vec F S1x1x64 .f32) : Vec F S2048x512 .bf16 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2 x3 x4).1)

/-- Case A's pieces for scratch `arg8`, which the kernel carries between points, cover it: 2 pieces of `S2048x512` tiling it (Lib/Ring.lean `Piece.tiledL`). -/
theorem scover0_A_0 (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : cond0_0 i) (hc1 : ¬cond0_1 i)
    (x0 : Vec F S1 .f32) (x1 : Vec F S2048x256 .bf16) (x2 : Vec F S128x512 .i8) (x3 : Vec F S256x64 .i8) (x4 : Vec F S1x1x64 .f32) (y : S2048x512.Idx) :
    ∃ pc ∈ (kernelRun0_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.1 S2048x512.size (by sl_kernel_rfl) y

/-- What case A leaves in scratch `arg8`: its pieces read back over junk. -/
def sout0_A_0 (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : cond0_0 i) (hc1 : ¬cond0_1 i)
    (x0 : Vec F S1 .f32) (x1 : Vec F S2048x256 .bf16) (x2 : Vec F S128x512 .i8) (x3 : Vec F S256x64 .i8) (x4 : Vec F S1x1x64 .f32) : Vec F S2048x512 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4).2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : ¬cond0_1 i)
    (x0 : Vec F S1 .f32) (x1 : Vec F S2048x256 .bf16) (x2 : Vec F S128x512 .i8) (x3 : Vec F S256x64 .i8) (x4 : Vec F S1x1x64 .f32) (xs0 : Vec F S2048x512 .f32) : Vec F S2048x512 .bf16 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 x3 x4 xs0).1)

/-- Case B's pieces for scratch `arg8`, which the kernel carries between points, cover it: 1 piece of `S2048x512` tiling it (Lib/Ring.lean `Piece.tiledL`). -/
theorem scover0_B_0 (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : ¬cond0_1 i)
    (x0 : Vec F S1 .f32) (x1 : Vec F S2048x256 .bf16) (x2 : Vec F S128x512 .i8) (x3 : Vec F S256x64 .i8) (x4 : Vec F S1x1x64 .f32) (xs0 : Vec F S2048x512 .f32) (y : S2048x512.Idx) :
    ∃ pc ∈ (kernelRun0_B c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0).2.1 S2048x512.size (by sl_kernel_rfl) y

/-- What case B leaves in scratch `arg8`: its pieces read back over junk. -/
def sout0_B_0 (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : ¬cond0_1 i)
    (x0 : Vec F S1 .f32) (x1 : Vec F S2048x256 .bf16) (x2 : Vec F S128x512 .i8) (x3 : Vec F S256x64 .i8) (x4 : Vec F S1x1x64 .f32) (xs0 : Vec F S2048x512 .f32) : Vec F S2048x512 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 xs0).2.1)

/-- Case C's pieces for output 5 tile its block (1 store of `S2048x512`, checked by the kernel's evaluation: Lib/Ring.lean `Piece.tiledL`, linear in the pieces, through a loop's `@[irreducible]` trip theorem too), so they cover it. -/
theorem cover0_C_5 (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : cond0_1 i)
    (x0 : Vec F S1 .f32) (x1 : Vec F S2048x256 .bf16) (x2 : Vec F S128x512 .i8) (x3 : Vec F S256x64 .i8) (x4 : Vec F S1x1x64 .f32) (xs0 : Vec F S2048x512 .f32) (y : S2048x512.Idx) :
    ∃ pc ∈ (kernelRun0_C c i arg2 harg2 arg3 harg3 arg4 harg4 arg5 harg5 arg6 harg6 arg7 harg7 arg8 harg8 arg9 harg9 hc0 hc1 x0 x1 x2 x3 x4 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).1 S2048x512.size (by sl_kernel_rfl) y

/-- What case C leaves in output 5's staging buffer: its pieces read back over junk. -/
def out0_C_5 (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : cond0_1 i)
    (x0 : Vec F S1 .f32) (x1 : Vec F S2048x256 .bf16) (x2 : Vec F S128x512 .i8) (x3 : Vec F S256x64 .i8) (x4 : Vec F S1x1x64 .f32) (xs0 : Vec F S2048x512 .f32) : Vec F S2048x512 .bf16 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 x4 xs0).1)

/-- Case C's pieces for scratch `arg8`, which the kernel carries between points, cover it: 1 piece of `S2048x512` tiling it (Lib/Ring.lean `Piece.tiledL`). -/
theorem scover0_C_0 (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : cond0_1 i)
    (x0 : Vec F S1 .f32) (x1 : Vec F S2048x256 .bf16) (x2 : Vec F S128x512 .i8) (x3 : Vec F S256x64 .i8) (x4 : Vec F S1x1x64 .f32) (xs0 : Vec F S2048x512 .f32) (y : S2048x512.Idx) :
    ∃ pc ∈ (kernelRun0_C c i arg2 harg2 arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0).2.1 S2048x512.size (by sl_kernel_rfl) y

/-- What case C leaves in scratch `arg8`: its pieces read back over junk. -/
def sout0_C_0 (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole) (hc0 : ¬cond0_0 i) (hc1 : cond0_1 i)
    (x0 : Vec F S1 .f32) (x1 : Vec F S2048x256 .bf16) (x2 : Vec F S128x512 .i8) (x3 : Vec F S256x64 .i8) (x4 : Vec F S1x1x64 .f32) (xs0 : Vec F S2048x512 .f32) : Vec F S2048x512 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2048x512 .bf16 × Vec F S2048x512 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 43 = 0 then
      if h1 : (n + 1) % 43 = 42 then
        False.elim (by have hN : n + 1 < 344 := lt_of_lt_of_eq hn (show cfg0.N = 344 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 43 = 42 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

/-- `outsAt0` at a point of case A: that case's contents. -/
theorem outsAt0_A (c : Dev nD) (t : Fin cfg0.N) (h0 : t.val % 43 = 0) (h1 : ¬t.val % 43 = 42) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 43 = 0) (h1 : ¬t.val % 43 = 42) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 43 = 0) (h1 : t.val % 43 = 42) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 344 := lt_of_lt_of_eq t.isLt (show cfg0.N = 344 from N_0)
  by_cases h0 : t.val % 43 = 0
  · by_cases h1 : t.val % 43 = 42
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%fT1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            iexists _; unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        rw [outsAt0_A m c t h0 h1]
        unfold sout0_A_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexact HS1
        iintro ⟨H0, H1, H2, H3, H4, H5, ⟨%es0, HS0⟩, ⟨%fT1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            iexists _; unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 43 = 42
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      by_cases hz : t.val = 0
      · exfalso; have hN : t.val < 344 := lt_of_lt_of_eq t.isLt (show cfg0.N = 344 from N_0); omega
      · rw [PhiS_castSucc m c t, PhiS_pos m c _ _ hz]
        rw [outsAt0_C m c t h0 h1]
        unfold out0_C_5 sout0_C_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%fT1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _)
            iexists _; unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      by_cases hz : t.val = 0
      · exfalso; have hN : t.val < 344 := lt_of_lt_of_eq t.isLt (show cfg0.N = 344 from N_0); omega
      · rw [PhiS_castSucc m c t, PhiS_pos m c _ _ hz]
        rw [outsAt0_B m c t h0 h1]
        unfold sout0_B_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%fT1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _)
            iexists _; unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 344 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.KernelIdeal.Value.lean ====
/-
  KernelIdeal: the kernel's result array as a fold over the grid points.

  What each point writes back (`flushed_5`), block by block in the final array (`blocks_5`), what the output block and the
  accumulator hold after each point as one fold from the first point (`outsAt0_sweep`), and the run with the result array
  named (`run`, by `G5`).
-/
module

public import proofs.«01_k».proof.Proof.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 43 = 0) (h1 : ¬t.val % 43 = 42) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  simp only [flushed5, outsAt0_A m c t h0 h1]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 43 = 0) (h1 : ¬t.val % 43 = 42) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  simp only [flushed5, outsAt0_B m c t h0 h1]

/-- … so at a point where case C runs, what its write-back would write is that case's NAMED TERM for the window (`Gen.out0_C_5`: the pieces
    its run found, read back) at the point's memrefs and input blocks, and for an output the case reads back what the point before left (`Gen.outsAt0` at `t - 1`) — by the frame's rewriting lemma for the case. -/
theorem flushed5_C (c : Dev nD) (t : Fin cfg0.N) (h0 : ¬t.val % 43 = 0) (h1 : t.val % 43 = 42) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  simp only [flushed5, outsAt0_C m c t h0 h1]

-- no `blocks5`: window 5's index map revisits a block index, or its points could not be enumerated here;
-- the final array is still the frame's `arrAt`, to read with Lib/Pipeline/Value.lean's lemmas by hand

/-- An index that no flushing point's block covers keeps output window 5's array contents at region entry. -/
theorem entry5 (c : Dev nD) (i : S2048x4096.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2) = (dats m 0 c).arrAt 5 cfg0.N :=
  (h c).1 5

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 2 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- After the frame run, argument `main_arg2` is as launched: input window 3 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 0 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 0).trans (((dats m 0 c).arrAt_in 0 rfl _).trans ((A_eq m c 0).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 43)
    stores the scratch whole without reading what it held, and `acc` does not enter there (nor where no point meets the
    conditions: `acc`, never read). -/
def scAt0_0 (c : Dev nD) (n : ℕ) (hb : n < cfg0.N) (acc : Vec F S2048x512 .f32) : Vec F S2048x512 .f32 :=
  if h0 : n % 43 = 0 then
    if h1 : n % 43 = 42 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))
  else
    if h1 : n % 43 = 42 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc

/-- WHAT CARRIED SCRATCH 0 HOLDS after point `t`: the fold of its run up to `t`, from the reset at the run's first point
    `43·(t / 43)` (Lib/Pipeline/Value.lean `Pipeline.eq_accAt_of_mod`, by the frame's `outsAt0_κ`; without enumerating the points). -/
theorem soutsAt0_0_eq (c : Dev nD) (t : Fin cfg0.N) :
    (outsAt0 m c t.val t.isLt).2 = Pipeline.accAt (fun n h => scAt0_0 m c n h (VS0_0.read (Elt F) VS0_0.junk)) (scAt0_0 m c) (43 * (t.val / 43)) (t.val % 43)
      (by have h1 := t.isLt; have h2 := Nat.div_add_mod t.val 43; omega) :=
  Pipeline.eq_accAt_of_mod (fun n h => (outsAt0 m c n h).2) 43 (fun n h => scAt0_0 m c n h (VS0_0.read (Elt F) VS0_0.junk)) (scAt0_0 m c)
    (fun n h hn => by
      have hN := lt_of_lt_of_eq h (show cfg0.N = 344 from N_0)
      by_cases h0 : n % 43 = 0 <;> by_cases h1 : n % 43 = 42
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 344 from N_0)
      by_cases h0 : (n + 1) % 43 = 0 <;> by_cases h1 : (n + 1) % 43 = 42
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S2048x512 .bf16 × Vec F S2048x512 .f32 :=
  ((VO0_5.read (Elt F) VO0_5.junk, VS0_0.read (Elt F) VS0_0.junk) : Vec F S2048x512 .bf16 × Vec F S2048x512 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S2048x512 .bf16 × Vec F S2048x512 .f32) : Vec F S2048x512 .bf16 × Vec F S2048x512 .f32 :=
  if h0 : n % 43 = 0 then
    if h1 : n % 43 = 42 then
      False.elim (by have hN : n < 344 := lt_of_lt_of_eq hb (show cfg0.N = 344 from N_0); omega)
    else
      (out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)))
  else
    if h1 : n % 43 = 42 then
      (out0_C_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2)
    else
      (out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2)

/-- `stAt0` at a point of case A: that case's contents. -/
theorem stAt0_A (c : Dev nD) (t : Fin cfg0.N) (acc : Vec F S2048x512 .bf16 × Vec F S2048x512 .f32) (h0 : t.val % 43 = 0) (h1 : ¬t.val % 43 = 42) :
    stAt0 m c t.val t.isLt acc = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) :=
  (dif_pos h0).trans ((dif_neg h1).trans rfl)

/-- `stAt0` at a point of case B: that case's contents, over `acc`. -/
theorem stAt0_B (c : Dev nD) (t : Fin cfg0.N) (acc : Vec F S2048x512 .bf16 × Vec F S2048x512 .f32) (h0 : ¬t.val % 43 = 0) (h1 : ¬t.val % 43 = 42) :
    stAt0 m c t.val t.isLt acc = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) acc.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) acc.2) :=
  (dif_neg h0).trans ((dif_neg h1).trans rfl)

/-- `stAt0` at a point of case C: that case's contents, over `acc`. -/
theorem stAt0_C (c : Dev nD) (t : Fin cfg0.N) (acc : Vec F S2048x512 .bf16 × Vec F S2048x512 .f32) (h0 : ¬t.val % 43 = 0) (h1 : t.val % 43 = 42) :
    stAt0 m c t.val t.isLt acc = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) acc.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) acc.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 344 from N_0)
  have e := Pipeline.eq_accAt_of_mod (fun n h => outsAt0 m c n h) 344 (fun n h => stAt0 m c n h junk0) (stAt0 m c)
    (fun n h _ => by
      have hN := lt_of_lt_of_eq h (show cfg0.N = 344 from N_0)
      obtain rfl : n = 0 := by omega
      exact outsAt0_zero m c h)
    (fun n h _ => outsAt0_succ m c n h)
    (by decide) n hn (by have := Nat.div_add_mod n 344; omega)
  have hd : n / 344 = 0 := Nat.div_eq_of_lt hN
  have hm : n % 344 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 5 -/

/-- The block of the array that holds index `i`, numbered in the order the points write the blocks back (one every 43 points),
    `i`'s place in it, and the point that writes it back (the last of its 43). -/
abbrev run5Of (i : S2048x4096.Idx) : ℕ := 8 * ((i 0).val / 2048 - 0) + 1 * ((i 1).val / 512 - 0)
set_option backward.proofsInPublic true in
abbrev loc5Of (i : S2048x4096.Idx) : S2048x512.Idx := fun a => match a with
  | ⟨0, _⟩ => ⟨(i 0).val % 2048, Nat.mod_lt _ (by decide)⟩
  | ⟨1, _⟩ => ⟨(i 1).val % 512, Nat.mod_lt _ (by decide)⟩
abbrev pt5Of (i : S2048x4096.Idx) : ℕ := 43 * run5Of i + 42

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v2) := fun i =>
  if h : pt5Of i < cfg0.N then
    (Pipeline.accAt (fun n h => stAt0 m c n h junk0) (stAt0 m c) 0 (pt5Of i) (by omega)).1 (loc5Of i)
  else V m c (Pipeline.arrRef spec0 5) i

/-- The printed index map, decided over the grid: output window 5's block indices stay in the box, and the block number
    read off them is the point's (`t / 43`). -/
theorem idx_facts5 : ∀ t : Fin cfg0.N, 0 ≤ win0_5.index t (0 : Fin 2) ∧ win0_5.index t (0 : Fin 2) ≤ 0
    ∧ 0 ≤ win0_5.index t (1 : Fin 2) ∧ win0_5.index t (1 : Fin 2) ≤ 7
    ∧ 8 * (win0_5.index t (0 : Fin 2) - 0) + 1 * (win0_5.index t (1 : Fin 2) - 0) = t.val / 43 :=
  (by decide +kernel : ∀ t : Fin grid0.N, _)

/-- Every block of the box is SOME flushing point's: `onto5Pt`, the point that writes back the block at place `q` of the box (the last point of its run). -/
abbrev onto5Pt (q0 : Fin 1) (q1 : Fin 8) : Fin grid0.N :=
  ⟨43 * (8 * q0.val + 1 * q1.val) + 42, lt_of_lt_of_eq (by omega) N_0.symm⟩
theorem idx_onto5 : ∀ (q0 : Fin 1) (q1 : Fin 8), ∃ t : Fin cfg0.N, (cfg0.win 5).flush t = true ∧ win0_5.index t = ![q0.val + 0, q1.val + 0] :=
  fun q0 q1 => ⟨onto5Pt q0 q1, (by decide +kernel : ∀ (q0 : Fin 1) (q1 : Fin 8), win0_5.flush (onto5Pt q0 q1) = true ∧ win0_5.index (onto5Pt q0 q1) = ![q0.val + 0, q1.val + 0]) q0 q1⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  have hm : t.val % 43 = 42 := (flush0_5 t).mp hf
  obtain ⟨e0, e1, e2⟩ := idx_facts5 t
  funext y
  have hy0 : (y 0).val < 2048 := (y 0).isLt
  have hy1 : (y 1).val < 512 := (y 1).isLt
  have hb0 : (((cfg0.win 5).blk t).view.emb y 0).val = win0_5.index t (0 : Fin 2) * 2048 + 1 * (y 0).val := rfl
  have hb1 : (((cfg0.win 5).blk t).view.emb y 1).val = win0_5.index t (1 : Fin 2) * 512 + 1 * (y 1).val := rfl
  have hr : run5Of (((cfg0.win 5).blk t).view.emb y) = t.val / 43 := by
    show 8 * ((((cfg0.win 5).blk t).view.emb y 0).val / 2048 - 0) + 1 * ((((cfg0.win 5).blk t).view.emb y 1).val / 512 - 0) = _
    rw [hb0, hb1]
    rw [show (win0_5.index t (0 : Fin 2) * 2048 + 1 * (y 0).val) / 2048 = win0_5.index t (0 : Fin 2) from by omega]; rw [show (win0_5.index t (1 : Fin 2) * 512 + 1 * (y 1).val) / 512 = win0_5.index t (1 : Fin 2) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 2048 = (y 0).val; rw [hb0]; omega
    | ⟨1, _⟩ => show (((cfg0.win 5).blk t).view.emb y 1).val % 512 = (y 1).val; rw [hb1]; omega
  have hp : pt5Of (((cfg0.win 5).blk t).view.emb y) = t.val := by
    show 43 * run5Of (((cfg0.win 5).blk t).view.emb y) + 42 = _
    rw [hr]; have := Nat.div_add_mod t.val 43; omega
  show (Pipeline.accAt (fun n h => stAt0 m c n h junk0) (stAt0 m c) 0 t.val _).1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S2048x4096.Idx) :
    i ∈ ((cfg0.win 5).blk t).view.set ↔ ∀ a : Fin 2, win0_5.index t a * S2048x512.size a ≤ (i a).val ∧ (i a).val < win0_5.index t a * S2048x512.size a + S2048x512.size a := by
  show i ∈ ((View.whole main_v2).slice (win0_5.rect t)).set ↔ _
  rw [View.set_slice_whole, Rect.mem_set_unit]
  exact Iff.rfl

/-- THE COVERED INDICES: in some flushing point's block iff inside the box those blocks fill. -/
theorem covered_iff5 (i : S2048x4096.Idx) :
    (∃ t : Fin cfg0.N, (cfg0.win 5).flush t = true ∧ i ∈ ((cfg0.win 5).blk t).view.set) ↔ 0 ≤ (i 0).val ∧ (i 0).val < 2048 ∧ 0 ≤ (i 1).val ∧ (i 1).val < 4096 := by
  constructor
  · rintro ⟨t, -, hi⟩
    rw [mem_blk5] at hi
    have b0 : win0_5.index t (0 : Fin 2) * 2048 ≤ (i 0).val ∧ (i 0).val < win0_5.index t (0 : Fin 2) * 2048 + 2048 := hi 0
    have b1 : win0_5.index t (1 : Fin 2) * 512 ≤ (i 1).val ∧ (i 1).val < win0_5.index t (1 : Fin 2) * 512 + 512 := hi 1
    obtain ⟨e0, e1, e2⟩ := idx_facts5 t
    omega
  · intro h
    have hi0 : (i 0).val < 2048 := (i 0).isLt
    have hi1 : (i 1).val < 4096 := (i 1).isLt
    obtain ⟨t, hft, ht⟩ := idx_onto5 ⟨(i 0).val / 2048 - 0, by omega⟩ ⟨(i 1).val / 512 - 0, by omega⟩
    have q0 : win0_5.index t (0 : Fin 2) = (i 0).val / 2048 - 0 + 0 := congrFun ht 0
    have q1 : win0_5.index t (1 : Fin 2) = (i 1).val / 512 - 0 + 0 := congrFun ht 1
    refine ⟨t, hft, ?_⟩
    rw [mem_blk5]
    intro a
    match a with
    | ⟨0, _⟩ => show win0_5.index t (0 : Fin 2) * 2048 ≤ (i 0).val ∧ (i 0).val < win0_5.index t (0 : Fin 2) * 2048 + 2048; omega
    | ⟨1, _⟩ => show win0_5.index t (1 : Fin 2) * 512 ≤ (i 1).val ∧ (i 1).val < win0_5.index t (1 : Fin 2) * 512 + 512; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 2048 := (i 0).isLt; have h1 : (i 1).val < 4096 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v2) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      kept_main_arg0 m r h c,
      kept_main_arg1 m r h c,
      kept_main_arg2 m r h c,
      kept_main_arg3 m r h c,
      kept_main_arg4 m r h c⟩)
    (run_main m ρ)

end Cert.KernelIdeal.Value

end
-- ==== Proof.Spec.lean ====
/-
  The layer's input gradient, element by element, as both programs compute it over the extended reals.

  Output row `o` of the weights is stored with its pair: rows `2 i` and `2 i + 1` share the byte row `i`, the even row in
  the low four bits. A weight is the code-book value of its four bits times its block's scale; the block scale is a
  quantised byte times the scale of its group of four rows, plus one offset.
-/
module

public import Idealize.ShloMosaic.Lib.Pointwise
public import Idealize.ShloMosaic.Lib.BitcastPair
public import Idealize.ShloMosaic.Lib.Pipeline.ValueKit

@[expose] public section

set_option maxRecDepth 16384

noncomputable section

namespace Cert.Nf4

open Idealize.ShloMosaic Idealize.ShloMosaic.TcCoe

/-- Bit `k` of a four-bit code, as a truth value of one bit. -/
def bit (x : BitVec 4) (k : ℕ) : BitVec 1 := x.extractLsb' k 1

/-- The code `b` holds in its low (`j = 0`) or high (`j = 1`) half. -/
def nibble (b : BitVec 8) (j : ℕ) : BitVec 4 := b.extractLsb' (4 * j) 4

/-- The value the code book gives the code. -/
def nf4 (x : BitVec 4) : EReal :=
  Scalar.select (bit x 3)
    (Scalar.select (bit x 2)
      (Scalar.select (bit x 1)
        (Scalar.select (bit x 0) 1 (Ideal.ofBits .f32 0x3F3913B3#32))
        (Scalar.select (bit x 0) (Ideal.ofBits .f32 0x3F1007AB#32) (Ideal.ofBits .f32 0x3EE1A4B8#32)))
      (Scalar.select (bit x 1)
        (Scalar.select (bit x 0) (Ideal.ofBits .f32 0x3EAD033A#32) (Ideal.ofBits .f32 0x3E7C04DD#32))
        (Scalar.select (bit x 0) (Ideal.ofBits .f32 0x3E24CAE3#32) (Ideal.ofBits .f32 0x3DA2FAFF#32))))
    (Scalar.select (bit x 2)
      (Scalar.select (bit x 1)
        (Scalar.select (bit x 0) 0 (Ideal.ofBits .f32 0xBDBA7871#32))
        (Scalar.select (bit x 0) (Ideal.ofBits .f32 0xBE3D353F#32) (Ideal.ofBits .f32 0xBE91A24D#32)))
      (Scalar.select (bit x 1)
        (Scalar.select (bit x 0) (Ideal.ofBits .f32 0xBECA32A0#32) (Ideal.ofBits .f32 0xBF066B30#32))
        (Scalar.select (bit x 0) (Ideal.ofBits .f32 0xBF3239B1#32) (Ideal.ofBits .f32 0xBF800000#32))))

/-- A quantised byte as a number. -/
def ofByte (q : BitVec 8) : EReal := ((q.toInt : ℝ) : EReal)

/-- A weight: byte `b`'s code of parity `j`, quantised block scale `q`, group scale `s`, offset `o`. -/
def weight (b : BitVec 8) (j : ℕ) (q : BitVec 8) (s o : EReal) : EReal := nf4 (nibble b j) * (ofByte q * s + o)

/-- Equal parts make equal weights. -/
theorem weight_congr {b b' : BitVec 8} {j j' : ℕ} {q q' : BitVec 8} {s s' o o' : EReal} (hb : b = b') (hj : j = j') (hq : q = q') (hs : s = s') (ho : o = o') :
    weight b j q s o = weight b' j' q' s' o' := by
  rw [hb, hj, hq, hs, ho]

/-- Output `o`'s part of the gradient at row `r` (of both batches, 1024 rows each) and column `c`. -/
def gradTerm (dy : FVec Ideal ⟨3, ![2, 1024, 11008]⟩ .bf16) (w : Vec Ideal ⟨2, ![5504, 4096]⟩ .i8) (q : Vec Ideal ⟨2, ![11008, 64]⟩ .i8)
    (s : FVec Ideal ⟨1, ![2752]⟩ .f32) (off : FVec Ideal ⟨1, ![1]⟩ .f32) (r : Fin 2048) (c : Fin 4096) (o : Fin 11008) : EReal :=
  dy (ix3 ⟨r.val / 1024, by omega⟩ ⟨r.val % 1024, by omega⟩ o)
    * weight (w (ix2 ⟨o.val / 2, by omega⟩ c)) (o.val % 2) (q (ix2 o ⟨c.val / 64, by omega⟩)) (s (ix1 ⟨o.val / 4, by omega⟩)) (off (ix1 0))

/-- The gradient at row `r` and column `c`: the sum over the 11008 outputs. -/
def grad (dy : FVec Ideal ⟨3, ![2, 1024, 11008]⟩ .bf16) (w : Vec Ideal ⟨2, ![5504, 4096]⟩ .i8) (q : Vec Ideal ⟨2, ![11008, 64]⟩ .i8)
    (s : FVec Ideal ⟨1, ![2752]⟩ .f32) (off : FVec Ideal ⟨1, ![1]⟩ .f32) (r : Fin 2048) (c : Fin 4096) : EReal :=
  ∑ o : Fin 11008, gradTerm dy w q s off r c o

/-- Equal arguments have equal gradients. -/
theorem grad_congr {dy dy' : FVec Ideal ⟨3, ![2, 1024, 11008]⟩ .bf16} {w w' : Vec Ideal ⟨2, ![5504, 4096]⟩ .i8} {q q' : Vec Ideal ⟨2, ![11008, 64]⟩ .i8}
    {s s' : FVec Ideal ⟨1, ![2752]⟩ .f32} {off off' : FVec Ideal ⟨1, ![1]⟩ .f32}
    (hdy : dy = dy') (hw : w = w') (hq : q = q') (hs : s = s') (ho : off = off') (r : Fin 2048) (c : Fin 4096) :
    grad dy w q s off r c = grad dy' w' q' s' off' r c := by
  rw [hdy, hw, hq, hs, ho]

end Cert.Nf4

end
-- ==== Proof.Point.lean ====
/-
  The stages of one grid point (`Tile`) read at an index, over the extended reals.

  The scale a row reads is the one of its group of four, a weight's sixteen-bit code is the half of its byte that its
  row's parity names, a column reads the block scale of the 64 columns it lies in, and the point's accumulation adds,
  for every row and column, the sum of the 256 products.
-/
module

public import proofs.«01_k».proof.Proof.KernelIdeal.Tile
public import proofs.«01_k».proof.Proof.Spec

@[expose] public section

set_option maxRecDepth 16384

noncomputable section

namespace Cert.KernelIdeal.Tile

open Cert.KernelIdeal Cert.KernelIdeal.Gen Cert.Nf4
open Idealize.ShloMosaic Idealize.ShloMosaic.TcCoe Idealize.SL.Sem

/-! ## The words the gathers take -/

/-- The wrapped index a scale gather takes at row `r` of group `g`: no wrap, and the row's group of four. -/
theorem scaleWord : ∀ (g : Fin 32) (r : Fin 8),
    Scalar.select (IntOp.cmpi CmpIPredicate.slt (IntOp.addi (BitVec.ofNat 32 (2 * g.val)) (IntOp.shrsi ArithUnit.vector (BitVec.ofNat 32 r.val) 2#32)) 0#32)
      (IntOp.addi (IntOp.addi (BitVec.ofNat 32 (2 * g.val)) (IntOp.shrsi ArithUnit.vector (BitVec.ofNat 32 r.val) 2#32)) 128#32)
      (IntOp.addi (BitVec.ofNat 32 (2 * g.val)) (IntOp.shrsi ArithUnit.vector (BitVec.ofNat 32 r.val) 2#32))
      = BitVec.ofNat 32 (2 * g.val + r.val / 4) := by
  decide +kernel

/-- The mask test on a code is the bit of the byte's half. -/
theorem codeBit : ∀ (b : BitVec 8) (j : Fin 2) (k : Fin 4),
    IntOp.cmpi CmpIPredicate.ne
      (IntOp.andi (BitVec.extractLsb' (16 * j.val) 16
          (IntOp.andi (IntOp.ori (BitVec.setWidth 32 b) (IntOp.shli ArithUnit.vector (BitVec.setWidth 32 b) 12#32)) 983055#32))
        (BitVec.ofNat 16 (2 ^ k.val))) 0#16 = bit (nibble b j.val) k.val := by
  decide +kernel

/-! ## The block scales -/

/-- The scales, repeated over the sublanes and twice over the lanes: the first 64 lanes are the scales. -/
theorem scaleTile_at (s : FVec Ideal S1x1x64 .f32) (r : Fin 8) (k : Fin 128) (h : k.val < 64) :
    scaleTile s (ix2 r k) = s (ix3 0 0 ⟨k.val, h⟩) := by
  pointwise [scaleTile]
  rw [dif_pos h]

/-- Row `8 g + r` of the expanded scales holds the scale of its group of four rows. -/
theorem scaleRows_at (s : FVec Ideal S1x1x64 .f32) (g : Fin 32) (r : Fin 8) (j : Fin 64) :
    scaleRows s (BitVec.ofNat 32 (2 * g.val)) (ix2 r j) = s (ix3 0 0 ⟨2 * g.val + r.val / 4, by omega⟩) := by
  have hj : j.val < 64 := j.isLt
  have h : (BitVec.ofNat 32 (2 * g.val + r.val / 4)).toNat % 128 = 2 * g.val + r.val / 4 := by
    rw [BitVec.toNat_ofNat]; omega
  have hx (r : Fin 8) (j : Fin 128) : scaleCol (BitVec.ofNat 32 (2 * g.val)) (ix2 r j) = BitVec.ofNat 32 (2 * g.val + r.val / 4) := by
    pointwise [scaleCol, wrapIdx, scaleIdx]
    split <;> exact scaleWord g r
  pointwise [scaleRows, dynamicGather_apply, hx]
  refine Eq.trans (congrArg (scaleTile (F := Ideal) s) (a₂ := ix2 r ⟨2 * g.val + r.val / 4, by omega⟩) ?_) (scaleTile_at s r ⟨2 * g.val + r.val / 4, by omega⟩ (by simp only; omega))
  funext b
  match b with
  | ⟨0, _⟩ => rfl
  | ⟨1, _⟩ => exact Fin.ext h

/-- The decoded block scale at row `r` and block `j`: quantised value times group scale plus offset. -/
theorem absmax_at (o : EReal) (q : Vec Ideal S256x64 .i8) (s : FVec Ideal S1x1x64 .f32) (r : Fin 256) (j : Fin 64) :
    absmax o q s (ix2 r j) = ofByte (q (ix2 r j)) * s (ix3 0 0 ⟨r.val / 4, by omega⟩) + o := by
  have hc := concatenate_ofFn_apply (t := S256x64) (s₁ := S8x64) 0 (fun g : Fin 32 => scaleRows (F := Ideal) s (BitVec.ofNat 32 (2 * g.val)))
    concatenates_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S256x64_d0
    rfl 8 rfl (ix2 r j) ⟨r.val / 8, by omega⟩ rfl (ix2 ⟨r.val % 8, by omega⟩ j) rfl
    (fun b hb => by match b with | ⟨0, _⟩ => exact absurd rfl hb | ⟨1, _⟩ => rfl)
  show FloatOps.sitofp (F := Ideal) FTy.f32 (q (ix2 r j)) * concatenate S256x64 0 _ _ (ix2 r j) + o = _
  rw [hc, scaleRows_at]
  have e : (⟨2 * (r.val / 8) + r.val % 8 / 4, by omega⟩ : Fin 64) = ⟨r.val / 4, by omega⟩ := Fin.ext (by simp only; omega)
  rw [e]
  rfl

/-! ## The decoded codes -/

/-- The mask of code bit `k` at row `r` is that bit of the half `r % 2` of byte `r / 2`. -/
theorem bitSet_at (p : Vec Ideal S128x512 .i8) (k : Fin 4) (r : Fin 256) (c : Fin 512) :
    bitSet (F := Ideal) p (BitVec.ofNat 16 (2 ^ k.val)) (ix2 r c) = bit (nibble (p (ix2 ⟨r.val / 2, by omega⟩ c)) (r.val % 2)) k.val := by
  pointwise [bitSet, codes, bitcast_32_16]
  rw [codeBit _ ⟨r.val % 2, by omega⟩ k]
  congr 3
  funext a
  match a with
  | ⟨0, _⟩ => exact Fin.ext (bitcasts_S128x512_w32_S256x512_w16.srcIdx_row _ _ _ _ rfl)
  | ⟨1, _⟩ => exact Fin.ext (bitcasts_S128x512_w32_S256x512_w16.srcIdx_other _ _ _ _ (by simp))

/-- The decoded tile at row `r` and column `c` is the code book at the half `r % 2` of byte `r / 2`. -/
theorem decoded_at (p : Vec Ideal S128x512 .i8) (r : Fin 256) (c : Fin 512) :
    decoded p (ix2 r c) = nf4 (nibble (p (ix2 ⟨r.val / 2, by omega⟩ c)) (r.val % 2)) := by
  have h0 := bitSet_at p 0 r c
  have h1 := bitSet_at p 1 r c
  have h2 := bitSet_at p 2 r c
  have h3 := bitSet_at p 3 r c
  simp only [Fin.isValue, Fin.val_zero, Fin.val_one, Fin.val_two, Nat.pow_zero, Nat.pow_one, Nat.reducePow, BitVec.ofNat_eq_ofNat, show ((3 : Fin 4) : ℕ) = 3 from rfl] at h0 h1 h2 h3
  pointwise [decoded, book, nf4, h0, h1, h2, h3]

/-! ## The block scales on the tile's columns -/

/-- One 128-column part of a row group: each lane holds the scale of the block it lies in. -/
theorem spread_at (n : Fin 8) (aw : FVec Ideal S16x128 .f32) (h : Fin 4) (r : Fin 16) (l : Fin 128) :
    spread (BitVec.ofNat 32 n.val) aw (BitVec.ofNat 32 (2 * h.val)) (ix2 r l) = aw (ix2 r ⟨8 * n.val + 2 * h.val + l.val / 64, by omega⟩) := by
  have hw : (BitVec.ofNat 32 (8 * n.val + 2 * h.val + l.val / 64)).toNat % 128 = 8 * n.val + 2 * h.val + l.val / 64 := by
    rw [BitVec.toNat_ofNat]; omega
  pointwise [spread, dynamicGather_apply, colIdx_at]
  split
  · congr 2
    exact Fin.ext hw
  · congr 2
    · exact Fin.ext (by simp only; omega)
    · exact Fin.ext hw

/-- The four parts side by side: column `c` of tile `n` holds the scale of block `8 n + c / 64`. -/
theorem spreadRow_at (n : Fin 8) (aw : FVec Ideal S16x128 .f32) (r : Fin 16) (c : Fin 512) :
    spreadRow (BitVec.ofNat 32 n.val) aw (ix2 r c) = aw (ix2 r ⟨8 * n.val + c.val / 64, by omega⟩) := by
  unfold spreadRow
  refine (concatenate_ofFn_apply (t := S16x512) (s₁ := S16x128) 1 (fun h : Fin 4 => spread (BitVec.ofNat 32 n.val) aw (BitVec.ofNat 32 (2 * h.val))) _
    rfl 128 rfl (ix2 r c) ⟨c.val / 128, by omega⟩ rfl (ix2 r ⟨c.val % 128, by omega⟩) rfl
    (fun b hb => by match b with | ⟨0, _⟩ => rfl | ⟨1, _⟩ => exact absurd rfl hb)).trans ?_
  rw [spread_at]
  congr 2
  exact Fin.ext (by simp only; omega)

/-- The sixteen row groups on top of each other. -/
theorem spreadAll_at (n : Fin 8) (aw : Fin 16 → FVec Ideal S16x128 .f32) (r : Fin 256) (c : Fin 512) :
    spreadAll (BitVec.ofNat 32 n.val) aw (ix2 r c) = aw ⟨r.val / 16, by omega⟩ (ix2 ⟨r.val % 16, by omega⟩ ⟨8 * n.val + c.val / 64, by omega⟩) := by
  unfold spreadAll
  refine (concatenate_ofFn_apply (t := S256x512) (s₁ := S16x512) 0 (fun g : Fin 16 => spreadRow (BitVec.ofNat 32 n.val) (aw g)) _
    rfl 16 rfl (ix2 r c) ⟨r.val / 16, by omega⟩ rfl (ix2 ⟨r.val % 16, by omega⟩ c) rfl
    (fun b hb => by match b with | ⟨0, _⟩ => exact absurd rfl hb | ⟨1, _⟩ => rfl)).trans ?_
  rw [spreadRow_at]

/-- The block scale at row `r` and column `c` of the tile. -/
theorem spreadAll_rows (A : FVec Ideal S256x64 .bf16) (n : Fin 8) (r : Fin 256) (c : Fin 512) :
    spreadAll (BitVec.ofNat 32 n.val) (fun g => widen (rows A g)) (ix2 r c) = A (ix2 r ⟨8 * n.val + c.val / 64, by omega⟩) := by
  rw [spreadAll_at]
  pointwise [widen, rows]
  congr 2
  · exact Fin.ext (by simp only; omega)
  · exact Fin.ext (by simp only; omega)

/-! ## The accumulation -/

/-- What one point adds at row `r` and column `c` of its tile. -/
def part (n : Fin 8) (o : EReal) (x : FVec Ideal S2048x256 .bf16) (p : Vec Ideal S128x512 .i8) (q : Vec Ideal S256x64 .i8)
    (s : FVec Ideal S1x1x64 .f32) (r : Fin 2048) (c : Fin 512) : EReal :=
  ∑ k : Fin 256, x (ix2 r k) * weight (p (ix2 ⟨k.val / 2, by omega⟩ c)) (k.val % 2) (q (ix2 k ⟨8 * n.val + c.val / 64, by omega⟩))
    (s (ix3 0 0 ⟨k.val / 4, by omega⟩)) o

/-- One point adds to the accumulator the sum over its 256 rows of gradient times decoded weight. -/
theorem step_at (n : Fin 8) (o : EReal) (p : Vec Ideal S128x512 .i8) (q : Vec Ideal S256x64 .i8)
    (s : FVec Ideal S1x1x64 .f32) (acc : FVec Ideal S2048x512 .f32) (x : FVec Ideal S2048x256 .bf16) (r : Fin 2048) (c : Fin 512) :
    step (BitVec.ofNat 32 n.val) p (fun g => widen (rows (absmax o q s) g)) acc x (ix2 r c) = acc (ix2 r c) + part n o x p q s r c := by
  pointwise [step]
  refine congrArg (acc (ix2 r c) + ·) (Finset.sum_congr rfl fun k _ => ?_)
  rw [decoded_at, spreadAll_rows, absmax_at]
  rfl

/-- The reset value of the accumulator is zero. -/
theorem zero_at (r : Fin 2048) (c : Fin 512) : zero (F := Ideal) (ix2 r c) = 0 := by
  pointwise [zero, k0_pay2]

/-- Narrowing the result is the identity over the extended reals. -/
theorem pay4_at (x : FVec Ideal S2048x512 .f32) (r : Fin 2048) (c : Fin 512) : k0_pay4 (F := Ideal) x (ix2 r c) = x (ix2 r c) := by
  pointwise [k0_pay4]

/-- The offset operand is its one entry. -/
theorem offset_at (x : FVec Ideal S1 .f32) : offset (F := Ideal) x = x (ix1 0) := by
  pointwise [offset]

end Cert.KernelIdeal.Tile

end
-- ==== Proof.Acc.lean ====
/-
  The kernel's result, element by element: the accumulator's fold over the 43 points of a column tile is the sum over all
  11008 outputs.
-/
module

public import proofs.«01_k».proof.Proof.Point
public import proofs.«01_k».proof.Proof.KernelIdeal.Value

@[expose] public section

set_option maxRecDepth 16384

noncomputable section

namespace Cert.KernelIdeal.Tile

open Cert.KernelIdeal Cert.KernelIdeal.Gen Cert.Nf4
open Idealize.ShloMosaic Idealize.ShloMosaic.TcCoe Idealize.SL.Sem

/-! ## What the cases leave -/

/-- The first point of a run starts from zero. -/
theorem sout_A (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole)
    (x0 : Vec Ideal S1 .f32) (x1 : Vec Ideal S2048x256 .bf16) (x2 : Vec Ideal S128x512 .i8) (x3 : Vec Ideal S256x64 .i8) (x4 : Vec Ideal S1x1x64 .f32) (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4
      = step (BitVec.ofNat 32 (i 0).val) x2 (fun g => widen (rows (absmax (offset x0) x3 x4) g)) (zero (F := Ideal)) x1 := by
  frame_out

/-- A point in the middle of a run adds its product to the accumulator. -/
theorem sout_B (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole)
    (x0 : Vec Ideal S1 .f32) (x1 : Vec Ideal S2048x256 .bf16) (x2 : Vec Ideal S128x512 .i8) (x3 : Vec Ideal S256x64 .i8) (x4 : Vec Ideal S1x1x64 .f32) (xs0 : Vec Ideal S2048x512 .f32) (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 x2 x3 x4 xs0
      = step (BitVec.ofNat 32 (i 0).val) x2 (fun g => widen (rows (absmax (offset x0) x3 x4) g)) xs0 x1 := by
  frame_out

/-- So does the last point of a run. -/
theorem sout_C (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole)
    (x0 : Vec Ideal S1 .f32) (x1 : Vec Ideal S2048x256 .bf16) (x2 : Vec Ideal S128x512 .i8) (x3 : Vec Ideal S256x64 .i8) (x4 : Vec Ideal S1x1x64 .f32) (xs0 : Vec Ideal S2048x512 .f32) (hc0 : ¬cond0_0 i) (hc1 : cond0_1 i) :
    sout0_C_0 c i arg2 harg2 arg3 harg3 arg4 harg4 arg5 harg5 arg6 harg6 arg7 harg7 arg8 harg8 arg9 harg9 hc0 hc1 x0 x1 x2 x3 x4 xs0
      = step (BitVec.ofNat 32 (i 0).val) x2 (fun g => widen (rows (absmax (offset x0) x3 x4) g)) xs0 x1 := by
  frame_out

/-- The last point of a run writes the accumulator out, rounded. -/
theorem out_C (c : Dev nD) (i : grid0.Coords) (arg2 : Memref sig .tc .smem S1 .f32) (harg2 : arg2.IsWhole) (arg3 : Memref sig .tc .vmem S2048x256 .bf16) (harg3 : arg3.IsWhole) (arg4 : Memref sig .tc .vmem S128x512 .i8) (harg4 : arg4.IsWhole) (arg5 : Memref sig .tc .vmem S256x64 .i8) (harg5 : arg5.IsWhole) (arg6 : Memref sig .tc .vmem S1x1x64 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S256x128 .bf16) (harg9 : arg9.IsWhole)
    (x0 : Vec Ideal S1 .f32) (x1 : Vec Ideal S2048x256 .bf16) (x2 : Vec Ideal S128x512 .i8) (x3 : Vec Ideal S256x64 .i8) (x4 : Vec Ideal S1x1x64 .f32) (xs0 : Vec Ideal S2048x512 .f32) (hc0 : ¬cond0_0 i) (hc1 : cond0_1 i) :
    out0_C_5 c i arg2 harg2 arg3 harg3 arg4 harg4 arg5 harg5 arg6 harg6 arg7 harg7 arg8 harg8 arg9 harg9 hc0 hc1 x0 x1 x2 x3 x4 xs0
      = k0_pay4 (step (BitVec.ofNat 32 (i 0).val) x2 (fun g => widen (rows (absmax (offset x0) x3 x4) g)) xs0 x1) := by
  frame_out

variable (m : (ℓ : Loc nD τ sig) → Buf (Elt Ideal) ℓ) (c : Dev nD)

/-! ## The blocks a point reads -/

/-- The windows' block indices at point `t`: column tile `t / 43`, row block `t % 43`. -/
theorem idx : ∀ t : Fin cfg0.N, win0_0.index t = ![0] ∧ win0_1.index t = ![0, t.val % 43] ∧ win0_2.index t = ![t.val % 43, t.val / 43]
    ∧ win0_3.index t = ![t.val % 43, 0] ∧ win0_4.index t = ![t.val % 43, 0, 0] ∧ (grid0.coords t 0).val = t.val / 43 :=
  (by decide +kernel : ∀ t : Fin grid0.N, _)

/-- The offset window holds the offset. -/
theorem blk0 (t : Fin cfg0.N) : (show FVec Ideal S1 .f32 from iblk m c 0 t) (ix1 0) = (show FVec Ideal S1 .f32 from m ((c : Thread nD τ).loc main_arg4)) (ix1 0) := by
  blk_ext [iblk, V, idx t]

/-- The gradient window at point `t` holds the columns of row block `t % 43`. -/
theorem blk1 (t : Fin cfg0.N) (r : Fin 2048) (k : Fin 256) :
    (show FVec Ideal S2048x256 .bf16 from iblk m c 1 t) (ix2 r k)
      = (show FVec Ideal S2x1024x11008 .bf16 from m ((c : Thread nD τ).loc main_arg0)) (ix3 ⟨r.val / 1024, by omega⟩ ⟨r.val % 1024, by omega⟩ ⟨t.val % 43 * 256 + k.val, by omega⟩) := by
  blk_simp [iblk, idx t]
  entry_read
  pointwise
  blk_ext [idx t]

/-- The packed window at point `t` holds packed rows of row block `t % 43` and columns of tile `t / 43`. -/
theorem blk2 (t : Fin cfg0.N) (i : Fin 128) (j : Fin 512) (h : t.val / 43 * 512 + j.val < 4096) :
    (show Vec Ideal S128x512 .i8 from iblk m c 2 t) (ix2 i j)
      = (show Vec Ideal S5504x4096 .i8 from m ((c : Thread nD τ).loc main_arg1)) (ix2 ⟨t.val % 43 * 128 + i.val, by omega⟩ ⟨t.val / 43 * 512 + j.val, h⟩) := by
  blk_ext [iblk, V, idx t]

/-- The quantised block scales of row block `t % 43`. -/
theorem blk3 (t : Fin cfg0.N) (k : Fin 256) (j : Fin 64) :
    (show Vec Ideal S256x64 .i8 from iblk m c 3 t) (ix2 k j)
      = (show Vec Ideal S11008x64 .i8 from m ((c : Thread nD τ).loc main_arg2)) (ix2 ⟨t.val % 43 * 256 + k.val, by omega⟩ j) := by
  blk_ext [iblk, V, idx t]

/-- The group scales of row block `t % 43`. -/
theorem blk4 (t : Fin cfg0.N) (k : Fin 64) :
    (show FVec Ideal S1x1x64 .f32 from iblk m c 4 t) (ix3 0 0 k)
      = (show FVec Ideal S2752 .f32 from m ((c : Thread nD τ).loc main_arg3)) (ix1 ⟨t.val % 43 * 64 + k.val, by omega⟩) := by
  blk_simp [iblk, idx t]
  entry_read
  pointwise
  blk_ext [idx t]

/-! ## The accumulator -/

/-- What point `t` adds to the accumulator. -/
def term (t : Fin cfg0.N) (y : S2048x512.Idx) : EReal :=
  part ⟨t.val / 43, by have := lt_of_lt_of_eq t.isLt N_0; omega⟩
    (offset (F := Ideal) (show FVec Ideal S1 .f32 from iblk m c 0 t)) (show FVec Ideal S2048x256 .bf16 from iblk m c 1 t)
    (show Vec Ideal S128x512 .i8 from iblk m c 2 t) (show Vec Ideal S256x64 .i8 from iblk m c 3 t)
    (show FVec Ideal S1x1x64 .f32 from iblk m c 4 t) (y 0) (y 1)

/-- The column tile's number as the body's word. -/
theorem word_n (t : Fin cfg0.N) (h : t.val / 43 < 8) : BitVec.ofNat 32 (grid0.coords t 0).val = BitVec.ofNat 32 (⟨t.val / 43, h⟩ : Fin 8).val := by
  rw [(idx t).2.2.2.2.2]

/-- A point's accumulation at an index. -/
theorem step_term (t : Fin cfg0.N) (acc : FVec Ideal S2048x512 .f32) (y : S2048x512.Idx) :
    step (F := Ideal) (BitVec.ofNat 32 (grid0.coords t 0).val) (show Vec Ideal S128x512 .i8 from iblk m c 2 t)
      (fun g => widen (rows (absmax (offset (F := Ideal) (show FVec Ideal S1 .f32 from iblk m c 0 t)) (show Vec Ideal S256x64 .i8 from iblk m c 3 t) (show FVec Ideal S1x1x64 .f32 from iblk m c 4 t)) g))
      acc (show FVec Ideal S2048x256 .bf16 from iblk m c 1 t) y = acc y + term m c t y := by
  have ht : t.val / 43 < 8 := by have := lt_of_lt_of_eq t.isLt N_0; omega
  rw [word_n t ht]
  idx_vars y
  exact step_at ⟨t.val / 43, ht⟩ _ _ _ _ _ _ _ _

/-- After the first point of a run the accumulator holds that point's term. -/
theorem acc_A (t : Fin cfg0.N) (h0 : t.val % 43 = 0) (y : S2048x512.Idx) : (outsAt0 m c t.val t.isLt).2 y = (0 : EReal) + term m c t y := by
  have h1 : ¬ t.val % 43 = 42 := by omega
  rw [outsAt0_A m c t h0 h1, sout_A]
  refine (step_term m c t _ y).trans ?_
  congr 1
  idx_vars y
  exact zero_at _ _

/-- Every later point of a run adds its term. -/
theorem acc_step (t : Fin cfg0.N) (h0 : ¬ t.val % 43 = 0) (y : S2048x512.Idx) :
    (outsAt0 m c t.val t.isLt).2 y = (outsAt0 m c (t.val - 1) (Nat.lt_of_le_of_lt (Nat.sub_le _ _) t.isLt)).2 y + term m c t y := by
  by_cases h1 : t.val % 43 = 42
  · rw [outsAt0_C m c t h0 h1, sout_C]
    exact step_term m c t _ y
  · rw [outsAt0_B m c t h0 h1, sout_B]
    exact step_term m c t _ y

/-- What the last point of a run writes out is its accumulator. -/
theorem out_acc (t : Fin cfg0.N) (h1 : t.val % 43 = 42) (y : S2048x512.Idx) : (outsAt0 m c t.val t.isLt).1 y = (outsAt0 m c t.val t.isLt).2 y := by
  have h0 : ¬ t.val % 43 = 0 := by omega
  rw [outsAt0_C m c t h0 h1, out_C, sout_C]
  idx_vars y
  exact pay4_at _ _ _

/-- The written block at an index: the sum over the run's 43 points. -/
theorem out_sum (t : Fin cfg0.N) (h1 : t.val % 43 = 42) (y : S2048x512.Idx) :
    (outsAt0 m c t.val t.isLt).1 y = ∑ s : Fin 43, term m c ⟨43 * (t.val / 43) + s.val, Pipeline.run_point_lt_of_flush t h1 s⟩ y := by
  rw [out_acc m c t h1 y, Pipeline.eq_sum_fin_of_reset_step_apply_of_flush (fun n h => ((outsAt0 m c n h).2 : S2048x512.Idx → EReal)) 43 (fun _ => 0) (term m c)
    (acc_A m c) (acc_step m c) t h1 y, zero_add]

/-! ## The result -/

/-- Lane `k` of the run's point `s` is output `256 s + k`. -/
theorem term_at (t : Fin cfg0.N) (s : Fin 43) (hs : t.val % 43 = s.val) (r : Fin 2048) (y : Fin 512) (j : Fin 4096) (hj : t.val / 43 * 512 + y.val = j.val) :
    term m c t (ix2 r y) = ∑ k : Fin 256, gradTerm (m ((c : Thread nD τ).loc main_arg0)) (m ((c : Thread nD τ).loc main_arg1)) (m ((c : Thread nD τ).loc main_arg2))
        (m ((c : Thread nD τ).loc main_arg3)) (m ((c : Thread nD τ).loc main_arg4)) r j ⟨s.val * 256 + k.val, by omega⟩ := by
  unfold term part
  refine Finset.sum_congr (M := EReal) rfl fun k _ => ?_
  unfold gradTerm
  refine congrArg₂ (· * ·) ((blk1 m c t r k).trans ?_)
    (weight_congr ((blk2 m c t ⟨k.val / 2, by omega⟩ y (by omega)).trans ?_) (by simp only; omega)
      ((blk3 m c t k ⟨8 * (t.val / 43) + y.val / 64, by omega⟩).trans ?_) ((blk4 m c t ⟨k.val / 4, by omega⟩).trans ?_)
      ((offset_at _).trans (blk0 m c t)))
  · blk_ext
  · blk_ext
  · blk_ext
  · blk_ext

/-- What the last point of column tile `t / 43` writes at row `r` and column `y` is the gradient. -/
theorem out_grad (t : Fin cfg0.N) (h1 : t.val % 43 = 42) (r : Fin 2048) (y : Fin 512) (j : Fin 4096) (hj : t.val / 43 * 512 + y.val = j.val) :
    (outsAt0 m c t.val t.isLt).1 (ix2 r y)
      = grad (m ((c : Thread nD τ).loc main_arg0)) (m ((c : Thread nD τ).loc main_arg1)) (m ((c : Thread nD τ).loc main_arg2))
          (m ((c : Thread nD τ).loc main_arg3)) (m ((c : Thread nD τ).loc main_arg4)) r j := by
  refine (out_sum m c t h1 (ix2 r y)).trans (Eq.trans (Fin.sum_fin_congr fun s => ?_) (Fin.sum_mul_add_fin 43 256 _))
  exact term_at m c ⟨43 * (t.val / 43) + s.val, Pipeline.run_point_lt_of_flush t h1 s⟩ s (by simp only; omega) r y j (by simp only; omega)

/-- The kernel's result is the gradient, at every row and column. -/
theorem result (i : S2048x4096.Idx) :
    Value.G5 m c i
      = grad (m ((c : Thread nD τ).loc main_arg0)) (m ((c : Thread nD τ).loc main_arg1)) (m ((c : Thread nD τ).loc main_arg2))
          (m ((c : Thread nD τ).loc main_arg3)) (m ((c : Thread nD τ).loc main_arg4)) (i 0) (i 1) := by
  have h0 : (i 0).val < 2048 := (i 0).isLt
  have h1 : (i 1).val < 4096 := (i 1).isLt
  have hp : Value.pt5Of i = 43 * ((i 1).val / 512) + 42 := by
    show 43 * (8 * ((i 0).val / 2048 - 0) + 1 * ((i 1).val / 512 - 0)) + 42 = _
    omega
  have hlt : Value.pt5Of i < cfg0.N := by
    rw [hp, show cfg0.N = 344 from N_0]; omega
  have hl : Value.loc5Of i = (ix2 (i 0 : Fin 2048) (⟨(i 1).val % 512, Nat.mod_lt _ (by decide)⟩ : Fin 512) : S2048x512.Idx) := by
    funext a
    match a with
    | ⟨0, _⟩ => exact Fin.ext (Nat.mod_eq_of_lt h0)
    | ⟨1, _⟩ => rfl
  unfold Value.G5
  rw [dif_pos hlt, hl]
  refine (congrFun (congrArg Prod.fst (Value.outsAt0_sweep m c (Value.pt5Of i) hlt)) _).symm.trans ?_
  exact out_grad m c ⟨Value.pt5Of i, hlt⟩ (by show Value.pt5Of i % 43 = 42; rw [hp]; omega) (i 0) ⟨(i 1).val % 512, Nat.mod_lt _ (by decide)⟩ (i 1)
    (by show Value.pt5Of i / 43 * 512 + (i 1).val % 512 = (i 1).val; rw [hp]; omega)

end Cert.KernelIdeal.Tile

end
-- ==== Proof.Ref.lean ====
/-
  The reference's result, element by element: its operations read at an index are the same gradient, the contraction over
  pairs of rows and the two of a pair regrouped over the 11008 outputs.
-/
module

public import proofs.«01_k».proof.Proof.Spec
public import proofs.«01_k».proof.Proof.Gen.ReferenceIdeal.Run

@[expose] public section

set_option maxRecDepth 16384

noncomputable section

namespace Cert.ReferenceIdeal.Value

open Cert.ReferenceIdeal Cert.ReferenceIdeal.Gen Cert.Nf4
open Idealize.ShloMosaic Idealize.ShloMosaic.TcCoe Idealize.SL.Sem

variable (V0 : Valuation τ sig (Elt Ideal))

/-- A bit test of the low code. -/
theorem lowBit : ∀ (b : BitVec 8) (k : Fin 4),
    IntOp.cmpi CmpIPredicate.eq (IntOp.andi (IntOp.shrsi ArithUnit.host (IntOp.andi (BitVec.setWidth 32 b) 15#32) (BitVec.ofNat 32 k.val)) 1#32) 1#32
      = bit (nibble b 0) k.val := by
  decide +kernel

/-- A bit test of the high code. -/
theorem highBit : ∀ (b : BitVec 8) (k : Fin 4),
    IntOp.cmpi CmpIPredicate.eq (IntOp.andi (IntOp.shrsi ArithUnit.host (IntOp.shrsi ArithUnit.host (BitVec.setWidth 32 b) 4#32) (BitVec.ofNat 32 k.val)) 1#32) 1#32
      = bit (nibble b 1) k.val := by
  decide +kernel

/-- The reference's test of bit 0 of the low code. -/
theorem v23_at (o : Fin 5504) (c : Fin 4096) :
    (show IVec S5504x4096 1 from res_main_v23 V0) (ix2 o c) = bit (nibble ((show Vec Ideal S5504x4096 .i8 from V0 (Proc.devRef .tc main_arg1)) (ix2 o c)) 0) 0 := by
  pointwise [res_main_v23, res_main_v14, res_main_v12]
  exact lowBit _ 0

/-- The reference's test of bit 1 of the low code. -/
theorem v29_at (o : Fin 5504) (c : Fin 4096) :
    (show IVec S5504x4096 1 from res_main_v29 V0) (ix2 o c) = bit (nibble ((show Vec Ideal S5504x4096 .i8 from V0 (Proc.devRef .tc main_arg1)) (ix2 o c)) 0) 1 := by
  pointwise [res_main_v29, res_main_v14, res_main_v12]
  exact lowBit _ 1

/-- The reference's test of bit 2 of the low code. -/
theorem v35_at (o : Fin 5504) (c : Fin 4096) :
    (show IVec S5504x4096 1 from res_main_v35 V0) (ix2 o c) = bit (nibble ((show Vec Ideal S5504x4096 .i8 from V0 (Proc.devRef .tc main_arg1)) (ix2 o c)) 0) 2 := by
  pointwise [res_main_v35, res_main_v14, res_main_v12]
  exact lowBit _ 2

/-- The reference's test of bit 3 of the low code. -/
theorem v14_at (o : Fin 5504) (c : Fin 4096) :
    IntOp.cmpi CmpIPredicate.eq (IntOp.andi (IntOp.shrsi ArithUnit.host ((show IVec S5504x4096 32 from res_main_v14 V0) (ix2 o c)) 3#32) 1#32) 1#32
      = bit (nibble ((show Vec Ideal S5504x4096 .i8 from V0 (Proc.devRef .tc main_arg1)) (ix2 o c)) 0) 3 := by
  pointwise [res_main_v14, res_main_v12]
  exact lowBit _ 3

/-- The code book's entries. -/
theorem v17_at (k : Fin 16) (w : BitVec 32) (h : lit0 (S16.rowMajor (ix1 k)) = w) :
    (show FVec Ideal S16 .bf16 from res_main_v17 V0) (ix1 k) = Ideal.ofBits .f32 w := by
  pointwise [res_main_v17]
  rw [h]

/-- The reference's test of bit 0 of the high code. -/
theorem v104_at (o : Fin 5504) (c : Fin 4096) :
    (show IVec S5504x4096 1 from res_main_v104 V0) (ix2 o c) = bit (nibble ((show Vec Ideal S5504x4096 .i8 from V0 (Proc.devRef .tc main_arg1)) (ix2 o c)) 1) 0 := by
  pointwise [res_main_v104, res_main_v95, res_main_v12]
  exact highBit _ 0

/-- The reference's test of bit 1 of the high code. -/
theorem v110_at (o : Fin 5504) (c : Fin 4096) :
    (show IVec S5504x4096 1 from res_main_v110 V0) (ix2 o c) = bit (nibble ((show Vec Ideal S5504x4096 .i8 from V0 (Proc.devRef .tc main_arg1)) (ix2 o c)) 1) 1 := by
  pointwise [res_main_v110, res_main_v95, res_main_v12]
  exact highBit _ 1

/-- The reference's test of bit 2 of the high code. -/
theorem v116_at (o : Fin 5504) (c : Fin 4096) :
    (show IVec S5504x4096 1 from res_main_v116 V0) (ix2 o c) = bit (nibble ((show Vec Ideal S5504x4096 .i8 from V0 (Proc.devRef .tc main_arg1)) (ix2 o c)) 1) 2 := by
  pointwise [res_main_v116, res_main_v95, res_main_v12]
  exact highBit _ 2

/-- The reference's test of bit 3 of the high code. -/
theorem v95_at (o : Fin 5504) (c : Fin 4096) :
    IntOp.cmpi CmpIPredicate.eq (IntOp.andi (IntOp.shrsi ArithUnit.host ((show IVec S5504x4096 32 from res_main_v95 V0) (ix2 o c)) 3#32) 1#32) 1#32
      = bit (nibble ((show Vec Ideal S5504x4096 .i8 from V0 (Proc.devRef .tc main_arg1)) (ix2 o c)) 1) 3 := by
  pointwise [res_main_v95, res_main_v12]
  exact highBit _ 3

/-- The code book's entries. -/
theorem v98_at (k : Fin 16) (w : BitVec 32) (h : lit1 (S16.rowMajor (ix1 k)) = w) :
    (show FVec Ideal S16 .bf16 from res_main_v98 V0) (ix1 k) = Ideal.ofBits .f32 w := by
  pointwise [res_main_v98]
  rw [h]

/-- The block scale of row `2 o + j` and block `k`. -/
theorem v11_at (o : Fin 5504) (j : Fin 2) (k : Fin 64) :
    (show FVec Ideal S5504x2x64 .bf16 from res_main_v11 V0) (ix3 o j k)
      = ofByte ((show Vec Ideal S11008x64 .i8 from V0 (Proc.devRef .tc main_arg2)) (ix2 ⟨o.val * 2 + j.val, by omega⟩ k))
          * (show FVec Ideal S2752 .f32 from V0 (Proc.devRef .tc main_arg3)) (ix1 ⟨(o.val * 2 + j.val) / 4, by omega⟩)
        + (show FVec Ideal S1 .f32 from V0 (Proc.devRef .tc main_arg4)) (ix1 0) := by
  have e : (⟨(o.val * 2 + j.val) / 4 * 4 + ((o.val * 2 + j.val) % 4 * 64 + k.val) / 64, by omega⟩ : Fin 11008) = ⟨o.val * 2 + j.val, by omega⟩ :=
    Fin.ext (by simp only; omega)
  pointwise [res_main_v11]
  rw [e]
  exact congrArg (fun z : ℤ => ((z : ℝ) : EReal) * _ + _) (BitVec.toInt_signExtend_of_le (by decide))

set_option maxHeartbeats 1600000 in
/-- The decoded, scaled weight of row `2 o + j` and column `c`. -/
theorem v177_at (o : Fin 5504) (j : Fin 2) (c : Fin 4096) :
    (show FVec Ideal S5504x2x4096 .bf16 from res_main_v177 V0) (ix3 o j c)
      = weight ((show Vec Ideal S5504x4096 .i8 from V0 (Proc.devRef .tc main_arg1)) (ix2 o c)) j.val
          ((show Vec Ideal S11008x64 .i8 from V0 (Proc.devRef .tc main_arg2)) (ix2 ⟨o.val * 2 + j.val, by omega⟩ ⟨c.val / 64, by omega⟩))
          ((show FVec Ideal S2752 .f32 from V0 (Proc.devRef .tc main_arg3)) (ix1 ⟨(o.val * 2 + j.val) / 4, by omega⟩))
          ((show FVec Ideal S1 .f32 from V0 (Proc.devRef .tc main_arg4)) (ix1 0)) := by
  have h17_0 := v17_at V0 0 0xBF800000#32 (by decide)
  have h17_1 := v17_at V0 1 0xBF3239B1#32 (by decide)
  have h17_2 := v17_at V0 2 0xBF066B30#32 (by decide)
  have h17_3 := v17_at V0 3 0xBECA32A0#32 (by decide)
  have h17_4 := v17_at V0 4 0xBE91A24D#32 (by decide)
  have h17_5 := v17_at V0 5 0xBE3D353F#32 (by decide)
  have h17_6 := v17_at V0 6 0xBDBA7871#32 (by decide)
  have h17_7 := v17_at V0 7 0x00000000#32 (by decide)
  have h17_8 := v17_at V0 8 0x3DA2FAFF#32 (by decide)
  have h17_9 := v17_at V0 9 0x3E24CAE3#32 (by decide)
  have h17_10 := v17_at V0 10 0x3E7C04DD#32 (by decide)
  have h17_11 := v17_at V0 11 0x3EAD033A#32 (by decide)
  have h17_12 := v17_at V0 12 0x3EE1A4B8#32 (by decide)
  have h17_13 := v17_at V0 13 0x3F1007AB#32 (by decide)
  have h17_14 := v17_at V0 14 0x3F3913B3#32 (by decide)
  have h17_15 := v17_at V0 15 0x3F800000#32 (by decide)
  have h98_0 := v98_at V0 0 0xBF800000#32 (by decide)
  have h98_1 := v98_at V0 1 0xBF3239B1#32 (by decide)
  have h98_2 := v98_at V0 2 0xBF066B30#32 (by decide)
  have h98_3 := v98_at V0 3 0xBECA32A0#32 (by decide)
  have h98_4 := v98_at V0 4 0xBE91A24D#32 (by decide)
  have h98_5 := v98_at V0 5 0xBE3D353F#32 (by decide)
  have h98_6 := v98_at V0 6 0xBDBA7871#32 (by decide)
  have h98_7 := v98_at V0 7 0x00000000#32 (by decide)
  have h98_8 := v98_at V0 8 0x3DA2FAFF#32 (by decide)
  have h98_9 := v98_at V0 9 0x3E24CAE3#32 (by decide)
  have h98_10 := v98_at V0 10 0x3E7C04DD#32 (by decide)
  have h98_11 := v98_at V0 11 0x3EAD033A#32 (by decide)
  have h98_12 := v98_at V0 12 0x3EE1A4B8#32 (by decide)
  have h98_13 := v98_at V0 13 0x3F1007AB#32 (by decide)
  have h98_14 := v98_at V0 14 0x3F3913B3#32 (by decide)
  have h98_15 := v98_at V0 15 0x3F800000#32 (by decide)
  match j with
  | ⟨0, hj⟩ =>
    pointwise [res_main_v177, v23_at, v29_at, v35_at, v14_at, v11_at, h17_0, h17_1, h17_2, h17_3, h17_4, h17_5, h17_6, h17_7, h17_8, h17_9, h17_10, h17_11, h17_12, h17_13, h17_14, h17_15, weight, nf4]
  | ⟨1, hj⟩ =>
    pointwise [res_main_v177, v104_at, v110_at, v116_at, v95_at, v11_at, h98_0, h98_1, h98_2, h98_3, h98_4, h98_5, h98_6, h98_7, h98_8, h98_9, h98_10, h98_11, h98_12, h98_13, h98_14, h98_15, weight, nf4]

/-- The reference's result at row `r` and column `c` is the gradient there: the product contracts the pair
(packed row `o`, half `j`), and `2 o + j` runs over the 11008 weight rows once. -/
theorem result_at (r : Fin 2048) (c : Fin 4096) :
    (show FVec Ideal S2048x4096 .bf16 from shapeCast _ (truncf .bf16 (show FVec Ideal S2x1024x4096 .f32 from Host.dotGeneral (φ₁ := .bf16) (φ₂ := .bf16) dot_S2x1024x5504x2_S5504x2x4096_S2x1024x4096_32_10_01_2_n_n none (show FVec Ideal S2x1024x5504x2 .bf16 from shapeCast _ (show FVec Ideal S2x1024x11008 .bf16 from V0 (Proc.devRef .tc main_arg0)) shapeCasts_S2x1024x11008_S2x1024x5504x2) (res_main_v177 V0)) bitsLt_bf16_f32) shapeCasts_S2x1024x4096_S2048x4096) (ix2 r c)
      = grad (V0 (Proc.devRef .tc main_arg0)) (V0 (Proc.devRef .tc main_arg1)) (V0 (Proc.devRef .tc main_arg2)) (V0 (Proc.devRef .tc main_arg3)) (V0 (Proc.devRef .tc main_arg4)) r c := by
  pointwise
  rw [Finset.sum_comm]
  refine Eq.trans ?_ (Fin.sum_mul_add_fin 5504 2 (gradTerm (V0 (Proc.devRef .tc main_arg0)) (V0 (Proc.devRef .tc main_arg1)) (V0 (Proc.devRef .tc main_arg2)) (V0 (Proc.devRef .tc main_arg3)) (V0 (Proc.devRef .tc main_arg4)) r c))
  refine Finset.sum_congr (M := EReal) rfl fun o _ => Finset.sum_congr (M := EReal) rfl fun j _ => ?_
  refine congrArg₂ (fun a b : EReal => a * b) rfl ((v177_at V0 o j c).trans ?_)
  have hw : (⟨o.val, by omega⟩ : Fin 5504) = ⟨(o.val * 2 + j.val) / 2, by omega⟩ := Fin.ext (by simp only; omega)
  refine weight_congr ?_ ?_ rfl rfl rfl
  · exact congrArg (fun x : Fin 5504 => (show Vec Ideal S5504x4096 .i8 from V0 (Proc.devRef .tc main_arg1)) (ix2 x c)) hw
  · change j.val = (o.val * 2 + j.val) % 2
    omega

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.KernelIdeal.Value
public import proofs.«01_k».proof.Proof.Acc
public import proofs.«01_k».proof.Proof.Ref
public import Idealize.ShloMosaic.Lib.Claim
public import Idealize.ShloMosaic.Adequacy
public import Idealize.ShloMosaic.Init

@[expose] public section

noncomputable section

namespace Cert.Proof

open Idealize.ShloMosaic Idealize.SL.Sem Cert.Kernel

set_option maxRecDepth 16384

/-- The kernel's and the reference's result arrays agree over the extended reals: each is the gradient `Nf4.grad` of
the five arguments, the kernel's by `Tile.result`, the reference's by `result_at`. -/
theorem algebraic : Cert.algebraic_KernelIdeal_ReferenceIdeal := by
  pair_intro
  · run_from Cert.KernelIdeal.Value.run m g
  · run_from Cert.ReferenceIdeal.Value.run m' g'
    obtain ⟨h0, h1, h2, h3, h4⟩ := hagree c
    rw [← h0]
    funext i
    obtain ⟨r, k, rfl⟩ : ∃ (r : Fin 2048) (k : Fin 4096), i = ix2 r k := ⟨i 0, i 1, by idx_vars i⟩
    refine (Cert.ReferenceIdeal.Value.result_at (StableHlo.launchContents m' c) r k).trans (Eq.trans ?_ (Cert.KernelIdeal.Tile.result m c (ix2 r k)).symm)
    exact Cert.Nf4.grad_congr h0 h1 h2 h3 h4 r k

/-- The reference runs to its end and keeps its arguments; every semaphore ends at zero because it declares none. -/
theorem frame_ReferenceIdeal : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

/-- The certificate: the three programs run to their ends and keep their arguments, the ideal program is the kernel, and
kernel and reference compute the same array. -/
theorem claim : Cert.Claim := ⟨Cert.Kernel.Gen.facts, Cert.KernelIdeal.Gen.facts, Cert.ReferenceIdeal.Gen.facts,
  fun m g _ => Cert.Kernel.Gen.frame m g,
  fun m g _ => Cert.KernelIdeal.Gen.frame m g,
  frame_ReferenceIdeal,
  trivial, algebraic⟩

end Cert.Proof

end
